-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S4096x256 : Shape := ⟨2, ![4096, 256]⟩
abbrev S2x4096x256 : Shape := ⟨3, ![2, 4096, 256]⟩
abbrev S7x512x256 : Shape := ⟨3, ![7, 512, 256]⟩
abbrev S3 : Shape := ⟨1, ![3]⟩
abbrev S7 : Shape := ⟨1, ![7]⟩
abbrev S1 : Shape := ⟨1, ![1]⟩
abbrev S_ : Shape := ⟨0, ![]⟩
abbrev S1x4096x256 : Shape := ⟨3, ![1, 4096, 256]⟩
abbrev S512x256 : Shape := ⟨2, ![512, 256]⟩
abbrev S1x512x256 : Shape := ⟨3, ![1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .f32⟩
  | .local _ .vmem, ⟨0, _⟩ => ⟨S4096x256, .f32⟩
  | .local _ .vmem, ⟨1, _⟩ => ⟨S512x4096, .f32⟩
  | .local _ .vmem, ⟨2, _⟩ => ⟨S2x4096x256, .f32⟩
  | .local _ .vmem, ⟨3, _⟩ => ⟨S7x512x256, .bf16⟩
  | .local _ .vmem, ⟨4, _⟩ => ⟨S7x512x256, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c1_i32_0 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v5 : BitVec 32 := Scalar.addi v2 c1_i32_0
  let c8_i32_1 : BitVec 32 := 8#32
  let c0_i32 : BitVec 32 := 0#32
  let v6 : BitVec 1 := Scalar.cmpi .eq c8_i32_1 c0_i32
  let c1_i32_2 : BitVec 32 := 1#32
  let v7 : BitVec 32 := Scalar.select v6 c1_i32_2 c8_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c256_i32 : BitVec 32 := 256#32
  let v16 : BitVec 32 := Scalar.muli v15 c256_i32
  ![0, v16.toNat]
def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v23 : BitVec 32 := Scalar.addi v2 c1_i32_11
  let c8_i32_12 : BitVec 32 := 8#32
  let c0_i32_13 : BitVec 32 := 0#32
  let v24 : BitVec 1 := Scalar.cmpi .eq c8_i32_12 c0_i32_13
  let c1_i32_14 : BitVec 32 := 1#32
  let v25 : BitVec 32 := Scalar.select v24 c1_i32_14 c8_i32_12
  let v26 : BitVec 32 := Scalar.remsi v23 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c1_i32_19 : BitVec 32 := 1#32
  let v34 : BitVec 32 := Scalar.muli v33 c1_i32_19
  let v35 : BitVec 32 := Scalar.addi c0_i32_20 v34
  v35.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_21 : BitVec 32 := 2#32
  let v36 : BitVec 32 := Scalar.addi v2 c2_i32_21
  let c8_i32_22 : BitVec 32 := 8#32
  let c0_i32_23 : BitVec 32 := 0#32
  let v37 : BitVec 1 := Scalar.cmpi .eq c8_i32_22 c0_i32_23
  let c1_i32_24 : BitVec 32 := 1#32
  let v38 : BitVec 32 := Scalar.select v37 c1_i32_24 c8_i32_22
  let v39 : BitVec 32 := Scalar.remsi v36 v38
  let c0_i32_26 : BitVec 32 := 0#32
  let v41 : BitVec 1 := Scalar.cmpi .slt v39 c0_i32_26
  let c0_i32_27 : BitVec 32 := 0#32
  let v42 : BitVec 1 := Scalar.cmpi .slt v38 c0_i32_27
  let v43 : BitVec 1 := Scalar.xori v41 v42
  let c0_i32_25 : BitVec 32 := 0#32
  let v40 : BitVec 1 := Scalar.cmpi .ne v39 c0_i32_25
  let v44 : BitVec 1 := Scalar.andi v43 v40
  let v45 : BitVec 32 := Scalar.addi v39 v38
  let v46 : BitVec 32 := Scalar.select v44 v45 v39
  let c1_i32_29 : BitVec 32 := 1#32
  let v47 : BitVec 32 := Scalar.muli v46 c1_i32_29
  let v48 : BitVec 32 := Scalar.addi c0_i32_30 v47
  v48.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v49 : BitVec 32 := Scalar.addi v2 c3_i32
  let c8_i32_31 : BitVec 32 := 8#32
  let c0_i32_32 : BitVec 32 := 0#32
  let v50 : BitVec 1 := Scalar.cmpi .eq c8_i32_31 c0_i32_32
  let c1_i32_33 : BitVec 32 := 1#32
  let v51 : BitVec 32 := Scalar.select v50 c1_i32_33 c8_i32_31
  let v52 : BitVec 32 := Scalar.remsi v49 v51
  let c0_i32_35 : BitVec 32 := 0#32
  let v54 : BitVec 1 := Scalar.cmpi .slt v52 c0_i32_35
  let c0_i32_36 : BitVec 32 := 0#32
  let v55 : BitVec 1 := Scalar.cmpi .slt v51 c0_i32_36
  let v56 : BitVec 1 := Scalar.xori v54 v55
  let c0_i32_34 : BitVec 32 := 0#32
  let v53 : BitVec 1 := Scalar.cmpi .ne v52 c0_i32_34
  let v57 : BitVec 1 := Scalar.andi v56 v53
  let v58 : BitVec 32 := Scalar.addi v52 v51
  let v59 : BitVec 32 := Scalar.select v57 v58 v52
  let c1_i32_38 : BitVec 32 := 1#32
  let v60 : BitVec 32 := Scalar.muli v59 c1_i32_38
  let v61 : BitVec 32 := Scalar.addi c0_i32_39 v60
  v61.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v62 : BitVec 32 := Scalar.addi v2 c4_i32
  let c8_i32_40 : BitVec 32 := 8#32
  let c0_i32_41 : BitVec 32 := 0#32
  let v63 : BitVec 1 := Scalar.cmpi .eq c8_i32_40 c0_i32_41
  let c1_i32_42 : BitVec 32 := 1#32
  let v64 : BitVec 32 := Scalar.select v63 c1_i32_42 c8_i32_40
  let v65 : BitVec 32 := Scalar.remsi v62 v64
  let c0_i32_44 : BitVec 32 := 0#32
  let v67 : BitVec 1 := Scalar.cmpi .slt v65 c0_i32_44
  let c0_i32_45 : BitVec 32 := 0#32
  let v68 : BitVec 1 := Scalar.cmpi .slt v64 c0_i32_45
  let v69 : BitVec 1 := Scalar.xori v67 v68
  let c0_i32_43 : BitVec 32 := 0#32
  let v66 : BitVec 1 := Scalar.cmpi .ne v65 c0_i32_43
  let v70 : BitVec 1 := Scalar.andi v69 v66
  let v71 : BitVec 32 := Scalar.addi v65 v64
  let v72 : BitVec 32 := Scalar.select v70 v71 v65
  let c1_i32_47 : BitVec 32 := 1#32
  let v73 : BitVec 32 := Scalar.muli v72 c1_i32_47
  let v74 : BitVec 32 := Scalar.addi c0_i32_48 v73
  v74.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v75 : BitVec 32 := Scalar.addi v2 c5_i32
  let c8_i32_49 : BitVec 32 := 8#32
  let c0_i32_50 : BitVec 32 := 0#32
  let v76 : BitVec 1 := Scalar.cmpi .eq c8_i32_49 c0_i32_50
  let c1_i32_51 : BitVec 32 := 1#32
  let v77 : BitVec 32 := Scalar.select v76 c1_i32_51 c8_i32_49
  let v78 : BitVec 32 := Scalar.remsi v75 v77
  let c0_i32_53 : BitVec 32 := 0#32
  let v80 : BitVec 1 := Scalar.cmpi .slt v78 c0_i32_53
  let c0_i32_54 : BitVec 32 := 0#32
  let v81 : BitVec 1 := Scalar.cmpi .slt v77 c0_i32_54
  let v82 : BitVec 1 := Scalar.xori v80 v81
  let c0_i32_52 : BitVec 32 := 0#32
  let v79 : BitVec 1 := Scalar.cmpi .ne v78 c0_i32_52
  let v83 : BitVec 1 := Scalar.andi v82 v79
  let v84 : BitVec 32 := Scalar.addi v78 v77
  let v85 : BitVec 32 := Scalar.select v83 v84 v78
  let c1_i32_56 : BitVec 32 := 1#32
  let v86 : BitVec 32 := Scalar.muli v85 c1_i32_56
  let v87 : BitVec 32 := Scalar.addi c0_i32_57 v86
  v87.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v88 : BitVec 32 := Scalar.addi v2 c6_i32
  let c8_i32_58 : BitVec 32 := 8#32
  let c0_i32_59 : BitVec 32 := 0#32
  let v89 : BitVec 1 := Scalar.cmpi .eq c8_i32_58 c0_i32_59
  let c1_i32_60 : BitVec 32 := 1#32
  let v90 : BitVec 32 := Scalar.select v89 c1_i32_60 c8_i32_58
  let v91 : BitVec 32 := Scalar.remsi v88 v90
  let c0_i32_62 : BitVec 32 := 0#32
  let v93 : BitVec 1 := Scalar.cmpi .slt v91 c0_i32_62
  let c0_i32_63 : BitVec 32 := 0#32
  let v94 : BitVec 1 := Scalar.cmpi .slt v90 c0_i32_63
  let v95 : BitVec 1 := Scalar.xori v93 v94
  let c0_i32_61 : BitVec 32 := 0#32
  let v92 : BitVec 1 := Scalar.cmpi .ne v91 c0_i32_61
  let v96 : BitVec 1 := Scalar.andi v95 v92
  let v97 : BitVec 32 := Scalar.addi v91 v90
  let v98 : BitVec 32 := Scalar.select v96 v97 v91
  let c1_i32_65 : BitVec 32 := 1#32
  let v99 : BitVec 32 := Scalar.muli v98 c1_i32_65
  let v100 : BitVec 32 := Scalar.addi c0_i32_66 v99
  v100.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v101 : BitVec 32 := Scalar.addi v2 c7_i32
  let c8_i32_67 : BitVec 32 := 8#32
  let c0_i32_68 : BitVec 32 := 0#32
  let v102 : BitVec 1 := Scalar.cmpi .eq c8_i32_67 c0_i32_68
  let c1_i32_69 : BitVec 32 := 1#32
  let v103 : BitVec 32 := Scalar.select v102 c1_i32_69 c8_i32_67
  let v104 : BitVec 32 := Scalar.remsi v101 v103
  let c0_i32_71 : BitVec 32 := 0#32
  let v106 : BitVec 1 := Scalar.cmpi .slt v104 c0_i32_71
  let c0_i32_72 : BitVec 32 := 0#32
  let v107 : BitVec 1 := Scalar.cmpi .slt v103 c0_i32_72
  let v108 : BitVec 1 := Scalar.xori v106 v107
  let c0_i32_70 : BitVec 32 := 0#32
  let v105 : BitVec 1 := Scalar.cmpi .ne v104 c0_i32_70
  let v109 : BitVec 1 := Scalar.andi v108 v105
  let v110 : BitVec 32 := Scalar.addi v104 v103
  let v111 : BitVec 32 := Scalar.select v109 v110 v104
  let c1_i32_74 : BitVec 32 := 1#32
  let v112 : BitVec 32 := Scalar.muli v111 c1_i32_74
  let v113 : BitVec 32 := Scalar.addi c0_i32_75 v112
  v113.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_111 : BitVec 32 := 1#32
  let v160 : BitVec 32 := Scalar.addi v2 c1_i32_111
  let c8_i32_112 : BitVec 32 := 8#32
  let c0_i32_113 : BitVec 32 := 0#32
  let v161 : BitVec 1 := Scalar.cmpi .eq c8_i32_112 c0_i32_113
  let c1_i32_114 : BitVec 32 := 1#32
  let v162 : BitVec 32 := Scalar.select v161 c1_i32_114 c8_i32_112
  let v163 : BitVec 32 := Scalar.remsi v160 v162
  let c0_i32_116 : BitVec 32 := 0#32
  let v165 : BitVec 1 := Scalar.cmpi .slt v163 c0_i32_116
  let c0_i32_117 : BitVec 32 := 0#32
  let v166 : BitVec 1 := Scalar.cmpi .slt v162 c0_i32_117
  let v167 : BitVec 1 := Scalar.xori v165 v166
  let c0_i32_115 : BitVec 32 := 0#32
  let v164 : BitVec 1 := Scalar.cmpi .ne v163 c0_i32_115
  let v168 : BitVec 1 := Scalar.andi v167 v164
  let v169 : BitVec 32 := Scalar.addi v163 v162
  let v170 : BitVec 32 := Scalar.select v168 v169 v163
  let c1_i32_122 : BitVec 32 := 1#32
  let v171 : BitVec 32 := Scalar.muli v170 c1_i32_122
  let v172 : BitVec 32 := Scalar.addi c0_i32_123 v171
  v172.toNat
def k0_dev9 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_160 : BitVec 32 := 2#32
  let v223 : BitVec 32 := Scalar.addi v2 c2_i32_160
  let c8_i32_161 : BitVec 32 := 8#32
  let c0_i32_162 : BitVec 32 := 0#32
  let v224 : BitVec 1 := Scalar.cmpi .eq c8_i32_161 c0_i32_162
  let c1_i32_163 : BitVec 32 := 1#32
  let v225 : BitVec 32 := Scalar.select v224 c1_i32_163 c8_i32_161
  let v226 : BitVec 32 := Scalar.remsi v223 v225
  let c0_i32_165 : BitVec 32 := 0#32
  let v228 : BitVec 1 := Scalar.cmpi .slt v226 c0_i32_165
  let c0_i32_166 : BitVec 32 := 0#32
  let v229 : BitVec 1 := Scalar.cmpi .slt v225 c0_i32_166
  let v230 : BitVec 1 := Scalar.xori v228 v229
  let c0_i32_164 : BitVec 32 := 0#32
  let v227 : BitVec 1 := Scalar.cmpi .ne v226 c0_i32_164
  let v231 : BitVec 1 := Scalar.andi v230 v227
  let v232 : BitVec 32 := Scalar.addi v226 v225
  let v233 : BitVec 32 := Scalar.select v231 v232 v226
  let c1_i32_171 : BitVec 32 := 1#32
  let v234 : BitVec 32 := Scalar.muli v233 c1_i32_171
  let v235 : BitVec 32 := Scalar.addi c0_i32_172 v234
  v235.toNat
def k0_dev10 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_209 : BitVec 32 := 3#32
  let v286 : BitVec 32 := Scalar.addi v2 c3_i32_209
  let c8_i32_210 : BitVec 32 := 8#32
  let c0_i32_211 : BitVec 32 := 0#32
  let v287 : BitVec 1 := Scalar.cmpi .eq c8_i32_210 c0_i32_211
  let c1_i32_212 : BitVec 32 := 1#32
  let v288 : BitVec 32 := Scalar.select v287 c1_i32_212 c8_i32_210
  let v289 : BitVec 32 := Scalar.remsi v286 v288
  let c0_i32_214 : BitVec 32 := 0#32
  let v291 : BitVec 1 := Scalar.cmpi .slt v289 c0_i32_214
  let c0_i32_215 : BitVec 32 := 0#32
  let v292 : BitVec 1 := Scalar.cmpi .slt v288 c0_i32_215
  let v293 : BitVec 1 := Scalar.xori v291 v292
  let c0_i32_213 : BitVec 32 := 0#32
  let v290 : BitVec 1 := Scalar.cmpi .ne v289 c0_i32_213
  let v294 : BitVec 1 := Scalar.andi v293 v290
  let v295 : BitVec 32 := Scalar.addi v289 v288
  let v296 : BitVec 32 := Scalar.select v294 v295 v289
  let c1_i32_220 : BitVec 32 := 1#32
  let v297 : BitVec 32 := Scalar.muli v296 c1_i32_220
  let v298 : BitVec 32 := Scalar.addi c0_i32_221 v297
  v298.toNat
def k0_dev11 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_258 : BitVec 32 := 4#32
  let v349 : BitVec 32 := Scalar.addi v2 c4_i32_258
  let c8_i32_259 : BitVec 32 := 8#32
  let c0_i32_260 : BitVec 32 := 0#32
  let v350 : BitVec 1 := Scalar.cmpi .eq c8_i32_259 c0_i32_260
  let c1_i32_261 : BitVec 32 := 1#32
  let v351 : BitVec 32 := Scalar.select v350 c1_i32_261 c8_i32_259
  let v352 : BitVec 32 := Scalar.remsi v349 v351
  let c0_i32_263 : BitVec 32 := 0#32
  let v354 : BitVec 1 := Scalar.cmpi .slt v352 c0_i32_263
  let c0_i32_264 : BitVec 32 := 0#32
  let v355 : BitVec 1 := Scalar.cmpi .slt v351 c0_i32_264
  let v356 : BitVec 1 := Scalar.xori v354 v355
  let c0_i32_262 : BitVec 32 := 0#32
  let v353 : BitVec 1 := Scalar.cmpi .ne v352 c0_i32_262
  let v357 : BitVec 1 := Scalar.andi v356 v353
  let v358 : BitVec 32 := Scalar.addi v352 v351
  let v359 : BitVec 32 := Scalar.select v357 v358 v352
  let c1_i32_269 : BitVec 32 := 1#32
  let v360 : BitVec 32 := Scalar.muli v359 c1_i32_269
  let v361 : BitVec 32 := Scalar.addi c0_i32_270 v360
  v361.toNat
def k0_dev12 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_307 : BitVec 32 := 5#32
  let v412 : BitVec 32 := Scalar.addi v2 c5_i32_307
  let c8_i32_308 : BitVec 32 := 8#32
  let c0_i32_309 : BitVec 32 := 0#32
  let v413 : BitVec 1 := Scalar.cmpi .eq c8_i32_308 c0_i32_309
  let c1_i32_310 : BitVec 32 := 1#32
  let v414 : BitVec 32 := Scalar.select v413 c1_i32_310 c8_i32_308
  let v415 : BitVec 32 := Scalar.remsi v412 v414
  let c0_i32_312 : BitVec 32 := 0#32
  let v417 : BitVec 1 := Scalar.cmpi .slt v415 c0_i32_312
  let c0_i32_313 : BitVec 32 := 0#32
  let v418 : BitVec 1 := Scalar.cmpi .slt v414 c0_i32_313
  let v419 : BitVec 1 := Scalar.xori v417 v418
  let c0_i32_311 : BitVec 32 := 0#32
  let v416 : BitVec 1 := Scalar.cmpi .ne v415 c0_i32_311
  let v420 : BitVec 1 := Scalar.andi v419 v416
  let v421 : BitVec 32 := Scalar.addi v415 v414
  let v422 : BitVec 32 := Scalar.select v420 v421 v415
  let c1_i32_318 : BitVec 32 := 1#32
  let v423 : BitVec 32 := Scalar.muli v422 c1_i32_318
  let v424 : BitVec 32 := Scalar.addi c0_i32_319 v423
  v424.toNat
def k0_dev13 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_356 : BitVec 32 := 6#32
  let v475 : BitVec 32 := Scalar.addi v2 c6_i32_356
  let c8_i32_357 : BitVec 32 := 8#32
  let c0_i32_358 : BitVec 32 := 0#32
  let v476 : BitVec 1 := Scalar.cmpi .eq c8_i32_357 c0_i32_358
  let c1_i32_359 : BitVec 32 := 1#32
  let v477 : BitVec 32 := Scalar.select v476 c1_i32_359 c8_i32_357
  let v478 : BitVec 32 := Scalar.remsi v475 v477
  let c0_i32_361 : BitVec 32 := 0#32
  let v480 : BitVec 1 := Scalar.cmpi .slt v478 c0_i32_361
  let c0_i32_362 : BitVec 32 := 0#32
  let v481 : BitVec 1 := Scalar.cmpi .slt v477 c0_i32_362
  let v482 : BitVec 1 := Scalar.xori v480 v481
  let c0_i32_360 : BitVec 32 := 0#32
  let v479 : BitVec 1 := Scalar.cmpi .ne v478 c0_i32_360
  let v483 : BitVec 1 := Scalar.andi v482 v479
  let v484 : BitVec 32 := Scalar.addi v478 v477
  let v485 : BitVec 32 := Scalar.select v483 v484 v478
  let c1_i32_367 : BitVec 32 := 1#32
  let v486 : BitVec 32 := Scalar.muli v485 c1_i32_367
  let v487 : BitVec 32 := Scalar.addi c0_i32_368 v486
  v487.toNat
def k0_dev14 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_405 : BitVec 32 := 7#32
  let v538 : BitVec 32 := Scalar.addi v2 c7_i32_405
  let c8_i32_406 : BitVec 32 := 8#32
  let c0_i32_407 : BitVec 32 := 0#32
  let v539 : BitVec 1 := Scalar.cmpi .eq c8_i32_406 c0_i32_407
  let c1_i32_408 : BitVec 32 := 1#32
  let v540 : BitVec 32 := Scalar.select v539 c1_i32_408 c8_i32_406
  let v541 : BitVec 32 := Scalar.remsi v538 v540
  let c0_i32_410 : BitVec 32 := 0#32
  let v543 : BitVec 1 := Scalar.cmpi .slt v541 c0_i32_410
  let c0_i32_411 : BitVec 32 := 0#32
  let v544 : BitVec 1 := Scalar.cmpi .slt v540 c0_i32_411
  let v545 : BitVec 1 := Scalar.xori v543 v544
  let c0_i32_409 : BitVec 32 := 0#32
  let v542 : BitVec 1 := Scalar.cmpi .ne v541 c0_i32_409
  let v546 : BitVec 1 := Scalar.andi v545 v542
  let v547 : BitVec 32 := Scalar.addi v541 v540
  let v548 : BitVec 32 := Scalar.select v546 v547 v541
  let c1_i32_416 : BitVec 32 := 1#32
  let v549 : BitVec 32 := Scalar.muli v548 c1_i32_416
  let v550 : BitVec 32 := Scalar.addi c0_i32_417 v549
  v550.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v593 : BitVec 32 := Scalar.muli v2 c512_i32
  let v594 : Index := Scalar.indexCast v593
  let c0_443 : Index := 0#32
  ![v594.toNat, 0]
def k0_off3 (d0 : Dev nD) (c1_i32_454 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v604 : BitVec 32 := Scalar.subi v2 c1_i32_454
  let c8_i32_455 : BitVec 32 := 8#32
  let c0_i32_456 : BitVec 32 := 0#32
  let v605 : BitVec 1 := Scalar.cmpi .eq c8_i32_455 c0_i32_456
  let c1_i32_457 : BitVec 32 := 1#32
  let v606 : BitVec 32 := Scalar.select v605 c1_i32_457 c8_i32_455
  let v607 : BitVec 32 := Scalar.remsi v604 v606
  let c0_i32_459 : BitVec 32 := 0#32
  let v609 : BitVec 1 := Scalar.cmpi .slt v607 c0_i32_459
  let c0_i32_460 : BitVec 32 := 0#32
  let v610 : BitVec 1 := Scalar.cmpi .slt v606 c0_i32_460
  let v611 : BitVec 1 := Scalar.xori v609 v610
  let c0_i32_458 : BitVec 32 := 0#32
  let v608 : BitVec 1 := Scalar.cmpi .ne v607 c0_i32_458
  let v612 : BitVec 1 := Scalar.andi v611 v608
  let v613 : BitVec 32 := Scalar.addi v607 v606
  let v614 : BitVec 32 := Scalar.select v612 v613 v607
  let c512_i32_468 : BitVec 32 := 512#32
  let v631 : BitVec 32 := Scalar.muli v614 c512_i32_468
  let v632 : Index := Scalar.indexCast v631
  let c0_469 : Index := 0#32
  ![v632.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdealBase.lean ====
/- # `Base`: the names the protocol's proof speaks of

Eight devices. Every device multiplies its own rows of `x` by all eight column blocks of `w`, one block at a time. It keeps
its own column block and sends each of the other seven to the device that owns it: slab `j` of its send buffer goes to slab
`j` of the receive buffer of the device `j + 1` after it. Before any of that the devices meet on the barrier semaphore: each
signals the seven others and waits for seven signals.

This module has the ring's arithmetic, the memrefs and semaphores, the contents, the schedule of the cells and the levels. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## The resource algebra: the pipeline's copy, the cells' rounds (duties named by `Fin 7`), the local copies' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The cells' rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb

variable (m : (ℓ : Loc nD τ sig) → Buf (Elt F) ℓ)

/-! ## The ring -/

/-- The device `k` places after `c`. -/
def up (c : Dev nD) (k : ℕ) : Dev nD := ⟨(c.val + k) % 8, Nat.mod_lt _ (by decide)⟩
/-- The device slab `j` of `c` goes to. -/
abbrev peer (c : Dev nD) (j : Fin 7) : Dev nD := up c (j.val + 1)
/-- The device slab `j` of `c`'s receive buffer comes from. -/
abbrev src (c : Dev nD) (j : Fin 7) : Dev nD := up c (7 - j.val)

theorem src_peer (c : Dev nD) (j : Fin 7) : src (peer c j) j = c := by revert c j; decide
theorem peer_src (c : Dev nD) (j : Fin 7) : peer (src c j) j = c := by revert c j; decide
/-- Device `c` pays duty `6 - j` of the device `j + 1` after it, which is `6 - j + 1` before `c`. -/
theorem peer_rev (c : Dev nD) (j : Fin 7) : peer (peer c j) (Fin.rev j) = c := by revert c j; decide

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 4 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 6 := by revert c; decide +kernel

/-- The column block the step `r + 1` reads is the one of the device `r + 1` after `c`. -/
theorem off1_eq (c : Dev nD) (r : Fin 8) : k0_off1 c (BitVec.ofNat 32 (1 + r.val)) = ![0, 256 * ((c.val + (r.val + 1)) % 8)] := by
  revert c r; decide +kernel
/-- The rows the block of slab `j` is stored to are those of the device it comes from. -/
theorem off3_eq (c : Dev nD) (j : Fin 7) : k0_off3 c (BitVec.ofNat 32 (1 + j.val)) = ![512 * (src c j).val, 0] := by
  revert c j; decide +kernel

/-! ## The memrefs and the semaphores -/

abbrev xH : Memref sig .tc .hbm S512x4096 .f32 := Memref.whole main_arg0
abbrev wH : Memref sig .tc .hbm S4096x2048 .f32 := Memref.whole main_arg1
abbrev oM : Memref sig .tc .vmem S4096x256 .f32 := Memref.whole cc0_stg0_0
abbrev xV : Memref sig .tc .vmem S512x4096 .f32 := Memref.whole cc0_scratch0
abbrev wV : Memref sig .tc .vmem S2x4096x256 .f32 := Memref.whole cc0_scratch1
abbrev sV : Memref sig .tc .vmem S7x512x256 .bf16 := Memref.whole cc0_scratch2
abbrev rV : Memref sig .tc .vmem S7x512x256 .bf16 := Memref.whole cc0_scratch3

theorem slab_inb (j : Fin 7) : ∀ a, (![j.val, 0, 0] : Fin 3 → Nat) a + S1x512x256.size a ≤ S7x512x256.size a := by
  revert j; decide
theorem slot_inb (p : Fin 2) : ∀ a, (![p.val, 0, 0] : Fin 3 → Nat) a + S1x4096x256.size a ≤ S2x4096x256.size a := by
  revert p; decide
theorem sem7_inb (j : Fin 7) : ∀ a, (![j.val] : Fin 1 → Nat) a + S1.size a ≤ S7.size a := by revert j; decide
theorem sem3_inb (p : Fin 3) : ∀ a, (![p.val] : Fin 1 → Nat) a + S1.size a ≤ S3.size a := by revert p; decide

/-- Slab `j` of a buffer of seven, slot `p` of the buffer of two. -/
abbrev slabR (j : Fin 7) : Rect S7x512x256 := Rect.unit (s := S7x512x256) ![j.val, 0, 0] S1x512x256.size (slab_inb j)
abbrev slotR (p : Fin 2) : Rect S2x4096x256 := Rect.unit (s := S2x4096x256) ![p.val, 0, 0] S1x4096x256.size (slot_inb p)
/-- The columns step `r + 1` reads. -/
abbrev colR (c : Dev nD) (r : Fin 8) : Rect S4096x2048 :=
  Rect.unit (s := S4096x2048) (k0_off1 c (BitVec.ofNat 32 (1 + r.val))) S4096x256.size (k0_off1_inb c r)

/-- The slabs, the slots and the column blocks as the copies name them. -/
abbrev sendM (j : Fin 7) : Memref sig .tc .vmem S512x256 .bf16 :=
  (sV.slice (slabR j) (fun _ => rfl)).squeeze S512x256 squeezes_S1x512x256_S512x256
abbrev recvM (j : Fin 7) : Memref sig .tc .vmem S512x256 .bf16 :=
  (rV.slice (slabR j) (fun _ => rfl)).squeeze S512x256 squeezes_S1x512x256_S512x256
abbrev slotM (p : Fin 2) : Memref sig .tc .vmem S4096x256 .f32 :=
  (wV.slice (slotR p) (fun _ => rfl)).squeeze S4096x256 squeezes_S1x4096x256_S4096x256
abbrev colM (c : Dev nD) (r : Fin 8) : Memref sig .tc .hbm S4096x256 .f32 := wH.slice (colR c r) (fun _ => rfl)

/-- The runtime's barrier semaphore; the send and receive semaphores; the local copies' semaphores. -/
abbrev barS : Sem sig := (SemArray.scalar (sig.barrier 0 rfl) : Sems sig S_).sem
abbrev sendS (j : Fin 7) : DmaSem sig :=
  ((cc0_scratch5.slice (Rect.unit (s := S7) ![j.val] S1.size (sem7_inb j))).squeeze S_ squeezes_S1_S_ : DmaSems sig S_).sem
abbrev recvS (j : Fin 7) : DmaSem sig :=
  ((cc0_scratch6.slice (Rect.unit (s := S7) ![j.val] S1.size (sem7_inb j))).squeeze S_ squeezes_S1_S_ : DmaSems sig S_).sem
abbrev copyS (p : Fin 3) : DmaSem sig :=
  ((cc0_scratch4.slice (Rect.unit (s := S3) ![p.val] S1.size (sem3_inb p))).squeeze S_ squeezes_S1_S_ : DmaSems sig S_).sem

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- What one slab's copy credits its semaphores. -/
abbrev N : ℕ := (recvM 0).view.dmaCredit
theorem N_pos : 0 < N := View.dmaCredit_pos _ (by decide)

/-! ## The semaphores' roles -/

/-- What a semaphore of a device is for. -/
inductive Role where
  | bar
  | snd (j : Fin 7)
  | rcv (j : Fin 7)
  | other
deriving DecidableEq

/-- The role of each semaphore. -/
def role (s : SemLoc sig) : Role :=
  if s = .reg barS then .bar
  else match (List.finRange 7).find? (fun j => decide (s = .dma (sendS j))) with
    | some j => .snd j
    | none => match (List.finRange 7).find? (fun j => decide (s = .dma (recvS j))) with
      | some j => .rcv j
      | none => .other

theorem role_bar : role (.reg barS) = .bar := by decide
theorem role_send (j : Fin 7) : role (.dma (sendS j)) = .snd j := by revert j; decide
theorem role_recv (j : Fin 7) : role (.dma (recvS j)) = .rcv j := by revert j; decide
theorem role_copy (p : Fin 3) : role (.dma (copyS p)) = .other := by revert p; decide

/-! ## Contents -/

/-- Device `c`'s rows of `x`, its copy of `w`, and the column block step `r + 1` reads. -/
def xval (c : Dev nD) : Vec F S512x4096 .f32 := m ((c : Thread nD τ).loc main_arg0)
def wval (c : Dev nD) : Vec F S4096x2048 .f32 := m ((c : Thread nD τ).loc main_arg1)
def wblk (c : Dev nD) (r : Fin 8) : Vec F S4096x256 .f32 := (colM c r).view.read (Elt F) (wval m c)
/-- That block as the slot's load reads it, with a leading axis of one. -/
def wslab (c : Dev nD) (r : Fin 8) : Vec F S1x4096x256 .f32 :=
  fun y => wblk m c r ((Shape.reshapeEquiv (Shape.Squeezes.numel_eq squeezes_S1x4096x256_S4096x256)).symm y)
/-- The slab device `c` sends at step `j + 1`. -/
def sendVal (c : Dev nD) (j : Fin 7) : Vec F S1x512x256 .bf16 := k0_pay2 (k0_pay1 (xval m c)) (wslab m c j.castSucc)

/-! ## Slabs as assertions -/

/-- Slab `j` of a buffer of device `c`, whatever it holds; and holding `X`. -/
def slabAny (M : Memref sig .tc .vmem S7x512x256 .bf16) (c : Dev nD) (j : Fin 7) : sProp 𝕄 :=
  iprop(∃ f : Buf (Elt F) (M.view.loc (c : Thread nD τ)), M.view.loc (c : Thread nD τ) ↦[(M.view.slice (slabR j)).set]{fullShare} f)
def slabIs (M : Memref sig .tc .vmem S7x512x256 .bf16) (c : Dev nD) (j : Fin 7) (X : Vec F S1x512x256 .bf16) : sProp 𝕄 :=
  iprop(∃ f : Buf (Elt F) (M.view.loc (c : Thread nD τ)), ⌜(M.view.slice (slabR j)).read (Elt F) f = X⌝
    ∗ (M.view.loc (c : Thread nD τ) ↦[(M.view.slice (slabR j)).set]{fullShare} f))

omit [FloatOps F] in
instance slabAny_storable (M) (c : Dev nD) (j : Fin 7) : BI.Storable (upEmb : UEmb _ 𝕄) (slabAny (F := F) M c j) := by
  unfold slabAny; infer_instance
omit [FloatOps F] in
instance slabIs_storable (M) (c : Dev nD) (j : Fin 7) (X) : BI.Storable (upEmb : UEmb _ 𝕄) (slabIs (F := F) M c j X) := by
  unfold slabIs; infer_instance

/-! ## The schedule -/

/-- One round. A barrier cell has seven duties of one unit: duty `j` is paid by the device `j + 1` after, which hands over
    slab `j` of its receive buffer. A send cell has one duty, of a slab's credit, which hands the sent slab back. A receive
    cell has one duty, of a slab's credit, which hands over the slab with what its sender computed. -/
def ringRd : Rounds.Schedule (GSem nD τ sig) (Fin 7) 𝕄 where
  duties g r := if r = 0 ∧ g.1.2 = .tc then (match role g.2 with | .bar => Finset.univ | .snd _ => {0} | .rcv _ => {0} | .other => ∅) else ∅
  unitless _ := False
  amount g _ _ := match role g.2 with | .bar => 1 | _ => N
  payload g _ d := match role g.2 with
    | .bar => slabAny rV (peer g.1.1 d) d
    | .snd j => slabAny sV g.1.1 j
    | .rcv j => slabIs rV g.1.1 j (sendVal m (src g.1.1 j) j)
    | .other => iprop(emp)
  amount_pos g _ _ _ := by
    cases role g.2
    · exact Nat.one_pos
    all_goals exact N_pos

instance ringRd_payload_storable (g : GSem nD τ sig) (r : ℕ) (d : Fin 7) :
    BI.Storable (upEmb : UEmb _ 𝕄) ((ringRd (F := F) m).payload g r d) := by
  unfold ringRd
  dsimp only
  split <;> infer_instance

section Sched
variable (c : Dev nD) (j d : Fin 7)

theorem duties_bar : (ringRd (F := F) m).duties (barCell c) 0 = Finset.univ := by
  dsimp only [ringRd]; rw [role_bar]; exact if_pos ⟨rfl, rfl⟩
theorem duties_send : (ringRd (F := F) m).duties (sendCell c j) 0 = {0} := by
  dsimp only [ringRd]; rw [role_send]; exact if_pos ⟨rfl, rfl⟩
theorem duties_recv : (ringRd (F := F) m).duties (recvCell c j) 0 = {0} := by
  dsimp only [ringRd]; rw [role_recv]; exact if_pos ⟨rfl, rfl⟩
theorem duties_later (g : GSem nD τ sig) : ∀ r, 1 ≤ r → (ringRd (F := F) m).duties g r = ∅ :=
  fun r hr => by dsimp only [ringRd]; exact if_neg fun h => by omega

theorem amount_bar : (ringRd (F := F) m).amount (barCell c) 0 d = 1 := by dsimp only [ringRd]; rw [role_bar]
theorem amount_send : (ringRd (F := F) m).amount (sendCell c j) 0 d = N := by dsimp only [ringRd]; rw [role_send]
theorem amount_recv : (ringRd (F := F) m).amount (recvCell c j) 0 d = N := by dsimp only [ringRd]; rw [role_recv]

theorem expect_bar : (ringRd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (ringRd (F := F) m).expect (sendCell c j) 0 = N := by
  unfold Schedule.expect Schedule.amountOf; rw [duties_send, Finset.sum_singleton, amount_send]
theorem expect_recv : (ringRd (F := F) m).expect (recvCell c j) 0 = N := by
  unfold Schedule.expect Schedule.amountOf; rw [duties_recv, Finset.sum_singleton, amount_recv]

theorem payload_bar : (ringRd (F := F) m).payload (barCell c) 0 d = slabAny rV (peer c d) d := by
  dsimp only [ringRd]; rw [role_bar]
theorem payload_send : (ringRd (F := F) m).payload (sendCell c j) 0 d = slabAny sV c j := by
  dsimp only [ringRd]; rw [role_send]
theorem payload_recv : (ringRd (F := F) m).payload (recvCell c j) 0 d = slabIs rV c j (sendVal m (src c j) j) := by
  dsimp only [ringRd]; rw [role_recv]

/-- What each wait hands over. -/
theorem rest_bar : bigSep ((ringRd (F := F) m).duties (barCell c) 0 \ ∅) (fun d => (ringRd (F := F) m).payload (barCell c) 0 d)
    = bigSep Finset.univ (fun d : Fin 7 => slabAny (F := F) rV (peer c d) d) := by
  rw [Finset.sdiff_empty, duties_bar, funext fun d => payload_bar m c d]
theorem rest_send : bigSep ((ringRd (F := F) m).duties (sendCell c j) 0 \ ∅) (fun d => (ringRd (F := F) m).payload (sendCell c j) 0 d)
    = slabAny sV c j := by
  rw [Finset.sdiff_empty, duties_send, bigSep_singleton, payload_send]
theorem rest_recv : bigSep ((ringRd (F := F) m).duties (recvCell c j) 0 \ ∅) (fun d => (ringRd (F := F) m).payload (recvCell c j) 0 d)
    = slabIs rV c j (sendVal m (src c j) j) := by
  rw [Finset.sdiff_empty, duties_recv, bigSep_singleton, payload_recv]

end Sched

/-! ## What each device owes; the levels -/

/-- What device `c` still owes when it has the signals `lb` and the copies `lr` before it: a unit to each signalled device's
    barrier cell, a slab's credit to each copied-to device's receive cell. -/
def owed (c : Dev nD) (lb lr : List (Fin 7)) : CellTallies nD τ sig Unit :=
  lb.foldr (fun j O => O + tallyAt (barCell (peer c j)) () 1)
    (lr.foldr (fun j O => O + tallyAt (recvCell (peer c j) j) () N) 0)

/-- All seven, in program order. -/
abbrev all7 : List (Fin 7) := [0, 1, 2, 3, 4, 5, 6]

/-- What device `c` owes at launch. -/
def O₀ (c : Dev nD) : CellTallies nD τ sig Unit := owed c all7 all7

def L (g : GSem nD τ sig) : Finset Unit := if g.1.2 = .tc then {()} else ∅
/-- Barrier cells at 1, receive cells at 2, the others at 0. -/
def lv (g : GSem nD τ sig) (_ : Unit) : ℕ := match role g.2 with | .bar => 1 | .rcv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g₀ g : GSem nD τ sig} {u : Unit} {k : ℕ} (h : 0 < tallyAt g₀ () k g u) : g = g₀ := by
  rw [tallyAt_apply] at h
  by_contra hn
  rw [if_neg (fun h' => hn h'.1)] at h
  exact Nat.lt_irrefl 0 h

/-- What is owed is owed to a barrier cell (only while signals are left) or to a receive cell. -/
theorem owed_pos {c : Dev nD} {lb lr : List (Fin 7)} {g : GSem nD τ sig} {u : Unit} (h : 0 < owed c lb lr g u) :
    (lb ≠ [] ∧ ∃ j, g = barCell (peer c j)) ∨ ∃ j, g = recvCell (peer c j) j := by
  induction lb with
  | nil =>
    right
    induction lr with
    | nil => exact absurd h (Nat.lt_irrefl 0)
    | cons j lr ih =>
      have h' : 0 < owed c [] lr g u + tallyAt (recvCell (peer c j) j) () N g u := h
      rcases Nat.eq_zero_or_pos (owed c [] lr g u) with h0 | h0
      · rw [h0, zero_add] at h'; exact ⟨j, tally_pos h'⟩
      · exact ih h0
  | cons j lb ih =>
    have h' : 0 < owed c lb lr g u + tallyAt (barCell (peer c j)) () 1 g u := h
    rcases Nat.eq_zero_or_pos (owed c lb lr g u) with h0 | h0
    · rw [h0, zero_add] at h'; exact .inl ⟨List.cons_ne_nil _ _, j, tally_pos h'⟩
    · exact (ih h0).imp (fun h => ⟨List.cons_ne_nil _ _, h.2⟩) id

omit [FloatOps F] in
/-- A wait on a semaphore that is neither the barrier nor a receive semaphore, whatever is owed. -/
theorem mayWait_low (c : Dev nD) (q : DmaSem sig) (hq : lv ((c : Thread nD τ), .dma q) () = 0) (lb lr : List (Fin 7)) :
    (levAts L lv : sProp 𝕄) ⊢ MayWait (c : Thread nD τ) (.dma q) () (owed c lb lr) :=
  MayOwe.of_cut (L := L) (lev := lv) 0 (fun p hp => by rw [Finset.mem_singleton.mp hp, L_tc]; exact Finset.mem_singleton_self _)
    (fun g u hg => by rcases owed_pos hg with ⟨-, j, rfl⟩ | ⟨j, rfl⟩ <;> exact Finset.mem_singleton_self _)
    (fun p hp => by rw [Finset.mem_singleton.mp hp]; exact hq.le)
    (fun g u hg => by
      rcases owed_pos hg with ⟨-, j, rfl⟩ | ⟨j, rfl⟩
      · dsimp only [lv]; rw [role_bar]; decide
      · dsimp only [lv]; rw [role_recv]; exact Nat.zero_lt_two)

omit [FloatOps F] in
/-- The barrier wait, with all signals given: only receive credits are owed. -/
theorem mayWait_bar (c : Dev nD) (lr : List (Fin 7)) :
    (levAts L lv : sProp 𝕄) ⊢ MayWait (c : Thread nD τ) (.reg barS) () (owed c [] lr) :=
  MayOwe.of_cut (L := L) (lev := lv) 1 (fun p hp => by rw [Finset.mem_singleton.mp hp, L_tc]; exact Finset.mem_singleton_self _)
    (fun g u hg => by rcases owed_pos hg with ⟨h, -⟩ | ⟨j, rfl⟩; exact absurd rfl h; exact Finset.mem_singleton_self _)
    (fun p hp => by rw [Finset.mem_singleton.mp hp]; dsimp only [lv]; rw [role_bar])
    (fun g u hg => by
      rcases owed_pos hg with ⟨h, -⟩ | ⟨j, rfl⟩
      · exact absurd rfl h
      · dsimp only [lv]; rw [role_recv]; exact Nat.one_lt_two)

end Cert.KernelIdealProof

end
-- ==== Proof.KernelIdealSteps.lean ====
/- # `Steps`: one lemma for each kind of operation the body makes

Each lemma takes the assertions the operation consumes one by one and gives the rest of the body what it hands back. The lemmas
speak of a step number, so the body uses each of them once for every step. -/
module

public import proofs.«01_k».proof.Proof.KernelIdealBase

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The views -/

omit [FloatOps F] in
theorem send_set (j : Fin 7) : (sendM j).view.set = (sV.view.slice (slabR j)).set := View.set_reshape _ _
omit [FloatOps F] in
theorem recv_set (j : Fin 7) : (recvM j).view.set = (rV.view.slice (slabR j)).set := View.set_reshape _ _
omit [FloatOps F] in
theorem slot_set (p : Fin 2) : (slotM p).view.set = (wV.view.slice (slotR p)).set := View.set_reshape _ _

omit [FloatOps F] in
/-- A copy from slab to slab lands, in the slab it writes, what the slab it reads held. -/
theorem landed_read (j : Fin 7) (fd : (cc0_scratch3 : Ref sig .tc).ty.Contents (Elt F)) (fs : (cc0_scratch2 : Ref sig .tc).ty.Contents (Elt F)) :
    (rV.view.slice (slabR j)).read (Elt F) ((recvM j).view.write (Elt F) fd ((sendM j).view.read (Elt F) fs) Finset.univ)
      = (sV.view.slice (slabR j)).read (Elt F) fs := by
  refine (congrArg _ (View.write_reshape_univ (v := rV.view.slice (slabR j)) _ fd _)).trans ?_
  refine (View.read_write_univ _ _).trans (funext fun x => ?_)
  show (sV.view.slice (slabR j)).read (Elt F) fs ((Shape.reshapeEquiv _) ((Shape.reshapeEquiv _).symm x)) = _
  rw [Equiv.apply_symm_apply]

omit [FloatOps F] in
/-- A copy into a slot lands, read through the slot with its leading axis, what was copied. -/
theorem slot_read (p : Fin 2) (fd : (cc0_scratch1 : Ref sig .tc).ty.Contents (Elt F)) (w : S4096x256.Idx → Elt F .f32) :
    (wV.view.slice (slotR p)).read (Elt F) ((slotM p).view.write (Elt F) fd w Finset.univ)
      = fun y => w ((Shape.reshapeEquiv (Shape.Squeezes.numel_eq squeezes_S1x4096x256_S4096x256)).symm y) :=
  (congrArg _ (View.write_reshape_univ (v := wV.view.slice (slotR p)) _ fd _)).trans (View.read_write_univ _ _)

/-! ## What a device holds between operations -/

/-- Every cell of the protocol. -/
abbrev CI : Type := Dev nD × Fin 15
def csem (i : Fin 15) : SemLoc sig :=
  if h : i.val = 0 then .reg barS
  else if h7 : i.val < 8 then .dma (sendS ⟨i.val - 1, by omega⟩)
  else .dma (recvS ⟨i.val - 8, by have := i.isLt; omega⟩)
abbrev kcell (ck : CI) : GSem nD τ sig := ((ck.1 : Thread nD τ), csem ck.2)

theorem csem_bar : csem 0 = .reg barS := rfl
theorem csem_send (j : Fin 7) : csem ⟨j.val + 1, by omega⟩ = .dma (sendS j) := by revert j; decide
theorem csem_recv (j : Fin 7) : csem ⟨j.val + 8, by omega⟩ = .dma (recvS j) := by revert j; decide

/-- The cells' invariants under the names `K`, that each cell has reached round 0, and the levels. -/
def records (K : CI → ℕ) : sProp 𝕄 :=
  iprop((bigSep Finset.univ fun ck : CI => cellInv ER (ringRd m) (K ck) (kcell ck))
    ∗ (bigSep Finset.univ fun ck : CI => reached ER (kcell ck) 0) ∗ levAts L lv)

instance records_persistent (K : CI → ℕ) : BI.Persistent (records m K) := by unfold records; infer_instance

def kBar (c : Dev nD) : CI := (c, 0)
def kSend (c : Dev nD) (j : Fin 7) : CI := (c, ⟨j.val + 1, by omega⟩)
def kRecv (c : Dev nD) (j : Fin 7) : CI := (c, ⟨j.val + 8, by omega⟩)

theorem kcell_bar (c : Dev nD) : kcell (kBar c) = barCell c := rfl
theorem kcell_send (c : Dev nD) (j : Fin 7) : kcell (kSend c j) = sendCell c j := Prod.ext rfl (csem_send j)
theorem kcell_recv (c : Dev nD) (j : Fin 7) : kcell (kRecv c j) = recvCell c j := Prod.ext rfl (csem_recv j)

section Records
variable (K : CI → ℕ) (c : Dev nD) (j : Fin 7)

theorem rec_inv (ck : CI) : records m K ⊢ cellInv ER (ringRd m) (K ck) (kcell ck) := by
  unfold records
  exact sep_elim_left.trans (bigSep_elim (Φ := fun ck : CI => cellInv ER (ringRd m) (K ck) (kcell ck)) (Finset.mem_univ ck))
theorem rec_reached (ck : CI) : records m K ⊢ reached ER (kcell ck) 0 := by
  unfold records
  exact sep_elim_right.trans (sep_elim_left.trans (bigSep_elim (Φ := fun ck : CI => (reached ER (kcell ck) 0 : sProp 𝕄)) (Finset.mem_univ ck)))
theorem rec_lev : records m K ⊢ levAts L lv := by
  unfold records
  iintro ⟨-, -, H⟩; iexact H

theorem inv_bar : records m K ⊢ cellInv ER (ringRd m) (K (kBar c)) (barCell c) := rec_inv m K (kBar c)
theorem inv_send : records m K ⊢ cellInv ER (ringRd m) (K (kSend c j)) (sendCell c j) := by
  rw [← kcell_send]; exact rec_inv m K (kSend c j)
theorem inv_recv : records m K ⊢ cellInv ER (ringRd m) (K (kRecv c j)) (recvCell c j) := by
  rw [← kcell_recv]; exact rec_inv m K (kRecv c j)
theorem reached_bar : records m K ⊢ reached ER (barCell c) 0 := rec_reached m K (kBar c)
theorem reached_send : records m K ⊢ reached ER (sendCell c j) 0 := by
  rw [← kcell_send]; exact rec_reached m K (kSend c j)
theorem reached_recv : records m K ⊢ reached ER (recvCell c j) 0 := by
  rw [← kcell_recv]; exact rec_reached m K (kRecv c j)

end Records

/-- What `c` owes, with whatever waits it has recorded. -/
def owesE (c : Dev nD) (lb lr : List (Fin 7)) : sProp 𝕄 := iprop(∃ W, owes (c : Thread nD τ) (owed c lb lr) W)

/-- What signal `j` takes: slab `6 - j` of the device's own receive buffer and the token of the duty it pays. -/
def sigRes (c : Dev nD) (j : Fin 7) : sProp 𝕄 :=
  iprop(slabAny rV c (Fin.rev j) ∗ dutyTok ER (barCell (peer c j)) 0 (Fin.rev j))
/-- The tokens of the two duties the copy of slab `j` pays. -/
def sendRes (c : Dev nD) (j : Fin 7) : sProp 𝕄 :=
  iprop(dutyTok ER (sendCell c j) 0 0 ∗ dutyTok ER (recvCell (peer c j) j) 0 0)
/-- What the wait for slab `j` takes. -/
def recvRes (c : Dev nD) (j : Fin 7) : sProp 𝕄 :=
  iprop(cred (tallyAt (recvCell c j) () N) ∗ atPos ER (recvCell c j) 0 ∅ 0)

/-- A slot of the buffer of two, whatever it holds; and holding `X`. -/
def slotAny (c : Dev nD) (p : Fin 2) : sProp 𝕄 :=
  iprop(∃ f : Buf (Elt F) (wV.view.loc (c : Thread nD τ)), wV.view.loc (c : Thread nD τ) ↦[(wV.view.slice (slotR p)).set]{fullShare} f)
def slotIs (c : Dev nD) (p : Fin 2) (X : Vec F S1x4096x256 .f32) : sProp 𝕄 :=
  iprop(∃ f : Buf (Elt F) (wV.view.loc (c : Thread nD τ)), ⌜(wV.view.slice (slotR p)).read (Elt F) f = X⌝
    ∗ (wV.view.loc (c : Thread nD τ) ↦[(wV.view.slice (slotR p)).set]{fullShare} f))

/-- A share of the device's copy of `w`. -/
def wHeld (c : Dev nD) (q : PosShare TreeShare) : sProp 𝕄 := iprop(wH.view.loc (c : Thread nD τ) ↦{q} wval m c)

/-- What the copy of a column block into a slot credits. -/
abbrev NW : ℕ := (slotM 0).view.dmaCredit
abbrev NX : ℕ := (xV : Memref sig .tc .vmem S512x4096 .f32).view.dmaCredit
theorem NW_pos : 0 < NW := View.dmaCredit_pos _ (by decide)
theorem NX_pos : 0 < NX := View.dmaCredit_pos _ (by decide)

/-- The slot's number among the local copies' semaphores. -/
abbrev slotS (p : Fin 2) : DmaSem sig := copyS p.castSucc

/-- Column block `r` on its way into slot `p`, with the share of `w` it reads: what it delivers, and the rest of the share. -/
def wFlight (c : Dev nD) (r : Fin 8) (p : Fin 2) (q : PosShare TreeShare) : sProp 𝕄 :=
  iprop(Flight EC (c : Thread nD τ) (.dma (slotS p)) () NW
      iprop(slotIs c p (wslab m c r) ∗ (wH.view.loc (c : Thread nD τ) ↦[(colM c r).view.set]{q} wval m c))
    ∗ (wH.view.loc (c : Thread nD τ) ↦[Finset.univ \ (colM c r).view.set]{q} wval m c))

/-- The device's rows of `x` on their way into its scratch. -/
def xFlight (c : Dev nD) : sProp 𝕄 :=
  Flight EC (c : Thread nD τ) (.dma (copyS 2)) () NX
    iprop((xV.view.loc (c : Thread nD τ) ↦{fullShare} xval m c) ∗ (xH.view.loc (c : Thread nD τ) ↦{fullShare} xval m c))

section Steps

variable (K : CI → ℕ) (c : Dev nD)

/-! ## The barrier -/

/-- Signal `j`: to the device `j + 1` after. -/
theorem wp_sig (j : Fin 7) (lb lr : List (Fin 7)) (n : Dev nD) (hn : n = peer c j)
    {α : Type} {Q : α → sProp 𝕄} {k : PUnit → Prog (TpuEff nD τ sig (Elt F) Λ₀ .tc) α} :
    records m K ⊢ iprop(sigRes c j -∗ owesE c (j :: lb) lr -∗ (owesE c lb lr -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS (1#32 : BitVec 32).toInt) k) Q) := by
  subst hn
  unfold sigRes owesE
  iintro #Hrec ⟨Hs, Ht⟩ ⟨%W, HO⟩ Hk
  iapply (Rounds.wp_signal 𝒱₀ ER (ringRd m) (c : Thread nD τ) none (dst := (peer c j : Thread nD τ)) (κ := K (kBar (peer c j)))
      (d := Fin.rev j) (by rw [duties_bar]; exact Finset.mem_univ _) ((amount_bar m (peer c j) (Fin.rev j)).trans (by decide)) () (owed c lb lr) rfl)
    $$ [HO Hs Ht]
  · isplitr; · iapply (inv_bar m K (peer c j)); iexact Hrec
    isplitl [HO]; · iexact HO
    isplitl [Ht]; · iexact Ht
    isplitl [Hs]; · rw [payload_bar, peer_rev]; iexact Hs
    iapply (reached_bar m K (peer c j)); iexact Hrec
  iintro HO
  iapply Hk
  iexists W; iexact HO

/-- The wait for the seven signals: slab `j` of the receive buffer of the device `j + 1` after comes with it, for every `j`. -/
theorem wp_barwait (lr : List (Fin 7)) {α : Type} {Q : α → sProp 𝕄} {k : PUnit → Prog (TpuEff nD τ sig (Elt F) Λ₀ .tc) α} :
    records m K ⊢ iprop(cred (tallyAt (barCell c) () 7) -∗ atPos ER (barCell c) 0 ∅ 0 -∗ owesE c [] lr
      -∗ ((owesE c [] lr ∗ semVal (barCell c) 0 ∗ bigSep Finset.univ (fun j : Fin 7 => slabAny rV (peer c j) j)) -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS (7#32 : BitVec 32).toInt) k) Q) := by
  unfold owesE
  iintro #Hrec Hc Hat ⟨%W, HO⟩ Hk
  iapply (Rounds.wp_wait_rest_token 𝒱₀ ER (ringRd m) (c : Thread nD τ) none (κ := K (kBar c))
      (wpE_semWait_eq 𝒱₀ (c : Thread nD τ) none Set.univ) (Set.mem_univ _) () (O := owed c [] lr) (W := W) (R := 0) (m := 0) (T := ∅)
      (by rw [expect_bar]; decide)) $$ [Hc HO Hat]
  · isplitr; · iapply (inv_bar m K c); iexact Hrec
    isplitl [Hc]; · iexact Hc
    isplitl [HO]; · iexact HO
    isplitr; · iapply (mayWait_bar c lr); iapply (rec_lev m K); iexact Hrec
    iexact Hat
  iintro ⟨HO, Hat, -, Hp⟩
  ihave Hp := (Entails.of_eq (rest_bar m c)) $$ Hp
  imod (Rounds.cell_close ER (ringRd m) (Set.mem_univ (K (kBar c))) (fun h => h) (R := 0 + 1) (duties_later m (barCell c))) $$ [Hat] with Hz
  · isplitr; · iapply (inv_bar m K c); iexact Hrec
    iexact Hat
  iapply Hk
  isplitl [HO]; · iexists _; iexact HO
  isplitl [Hz]; · iexact Hz
  iexact Hp

/-! ## The local copies -/

/-- What a copy into a slot delivers is the slot holding the column block. -/
theorem slot_delivered (r : Fin 8) (p : Fin 2) (q : PosShare TreeShare) (f : Buf (Elt F) (wV.view.loc (c : Thread nD τ))) :
    iprop(((slotM p).view.loc (c : Thread nD τ) ↦[(wV.view.slice (slotR p)).set]{fullShare}
          (slotM p).view.write (Elt F) f (ReadAs.same.apply ((colM c r).view.read (Elt F) (wval m c))) Finset.univ)
        ∗ ((colM c r).view.loc (c : Thread nD τ) ↦[(colM c r).view.set]{q} wval m c))
      ⊢ iprop(slotIs c p (wslab m c r) ∗ (wH.view.loc (c : Thread nD τ) ↦[(colM c r).view.set]{q} wval m c)) := by
  unfold slotIs
  iintro ⟨Hs, Hw⟩
  isplitl [Hs]
  · iexists _
    isplitr
    · ipureintro; exact slot_read p f _
    iexact Hs
  iexact Hw

/-- The copy of column block `r` into slot `p` starts. -/
theorem wp_wcopy (r : Fin 8) (p : Fin 2) (q : PosShare TreeShare) {hsrc : (colM c r).view.WordExact} {hdst : (slotM p).view.WordExact}
    {hsem : DmaTarget.Typed (nD := nD) .hbm (.dma (slotS p)) (.here (p := .tc) (slotM p))}
    {α : Type} {Q : α → sProp 𝕄} {k : PUnit → Prog (TpuEff nD τ sig (Elt F) Λ₀ .tc) α} :
    slotAny (F := F) c p ⊢ iprop(semVal ((c : Thread nD τ), .dma (slotS p)) 0 -∗ wHeld m c q -∗ (wFlight m c r p q -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (colM c r) (.here (slotM p)) (.dma (slotS p)) hsrc hdst hsem) k) Q) := by
  unfold slotAny wHeld
  iintro ⟨%f, Hs⟩ Hz Hw Hk
  ihave Hw := (pointsTo_split_subset (Finset.subset_univ (colM c r).view.set)).1 $$ Hw
  icases Hw with ⟨Hw, Hrest⟩
  iapply (Transfers.wp_dmaLocal EC 𝒱₀ (c : Thread nD τ) none (src := colM c r) (dst := slotM p) (sm := .dma (slotS p)) (Sd := (wV.view.slice (slotR p)).set)
    () NW rfl NW_pos (subset_of_eq (slot_set p))) $$ [Hs Hw Hz]
  · isplitl [Hw]; · iexact Hw
    isplitl [Hs]; · iexact Hs
    iexact Hz
  iintro Hf
  iapply Hk
  unfold wFlight
  isplitl [Hf]
  · iapply (Transfers.Flight_mono EC (c : Thread nD τ) (slot_delivered m c r p q f)) $$ Hf
  iexact Hrest

/-- Its wait. -/
theorem wp_wwait (r : Fin 8) (p : Fin 2) (q : PosShare TreeShare) (lb lr : List (Fin 7)) {hsrc : (colM c r).view.WordExact} {hdst : (slotM p).view.WordExact}
    {α : Type} {Q : α → sProp 𝕄} {k : PUnit → Prog (TpuEff nD τ sig (Elt F) Λ₀ .tc) α} :
    records m K ⊢ iprop(wFlight m c r p q -∗ owesE c lb lr
      -∗ ((slotIs c p (wslab m c r) ∗ semVal ((c : Thread nD τ), .dma (slotS p)) 0 ∗ wHeld m c q ∗ owesE c lb lr) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (slotS p) (colM c r) (slotM p) hsrc hdst) k) Q) := by
  unfold wFlight owesE wHeld
  iintro #Hrec ⟨Hf, Hrest⟩ ⟨%W, HO⟩ Hk
  iapply (Transfers.wp_waitLocalO EC 𝒱₀ (c : Thread nD τ) none (srcw := colM c r) (dstw := slotM p) (hsrc := hsrc) (hdst := hdst) () (N := NW) rfl (O := owed c lb lr) (W := W)) $$ [Hf HO]
  · isplitl [Hf]; · iexact Hf
    isplitl [HO]; · iexact HO
    iapply (mayWait_low c (slotS p) (by dsimp only [lv]; rw [role_copy]) lb lr); iapply (rec_lev m K); iexact Hrec
  iintro ⟨⟨Hs, Hw⟩, Hz, HO⟩
  iapply Hk
  isplitl [Hs]; · iexact Hs
  isplitl [Hz]; · iexact Hz
  isplitl [Hw Hrest]
  · iapply (pointsTo_split_subset (Finset.subset_univ (colM c r).view.set)).2
    isplitl [Hw] <;> iassumption
  iexists _; iexact HO

/-- The load of a slot. -/
theorem wp_wload (p : Fin 2) (X : Vec F S1x4096x256 .f32) {hl : wV.view.LoadsAt (slotR p).toLoadRect}
    {α : Type} {Q : α → sProp 𝕄} {k : Vec F S1x4096x256 .f32 → Prog (TpuEff nD τ sig (Elt F) Λ₀ .tc) α} :
    slotIs (F := F) c p X ⊢ iprop((slotAny c p -∗ wp frame (wpE (defs₀ (F := F)) 𝒱₀ (c : Thread nD τ) none) Set.univ (k X) Q) -∗ wp frame (wpE (defs₀ (F := F)) 𝒱₀ (c : Thread nD τ) none) Set.univ (.op (.load wV (slotR p).toLoadRect hl) k) Q) := by
  unfold slotIs slotAny
  iintro ⟨%f, %hf, Hs⟩ Hk
  iapply (wp_load_rect 𝒱₀ (c : Thread nD τ) none Set.univ (m := wV) (r := slotR p) (Finset.Subset.refl _)) $$ Hs
  iintro Hs
  ispecialize Hk $$ [Hs]
  · iexists f; iexact Hs
  rw [← hf]
  iexact Hk

/-- What the copy of the rows of `x` delivers is the scratch holding them. -/
theorem x_delivered (f : Buf (Elt F) (xV.view.loc (c : Thread nD τ))) :
    (iprop((xV.view.loc (c : Thread nD τ) ↦{fullShare} xV.view.write (Elt F) f (ReadAs.same.apply (xH.view.read (Elt F) (xval m c))) Finset.univ)
        ∗ (xH.view.loc (c : Thread nD τ) ↦[xH.view.set]{fullShare} xval m c)) : sProp 𝕄)
      ⊢ iprop((xV.view.loc (c : Thread nD τ) ↦{fullShare} xval m c) ∗ (xH.view.loc (c : Thread nD τ) ↦{fullShare} xval m c)) := by
  rw [show (xV.view.write (Elt F) f (ReadAs.same.apply (xH.view.read (Elt F) (xval m c))) Finset.univ) = xval m c from View.write_whole_univ _ _ _,
    show xH.view.set = Finset.univ from View.set_whole _]

/-- The copy of the device's rows of `x` starts. -/
theorem wp_xcopy {hsrc : xH.view.WordExact} {hdst : xV.view.WordExact}
    {hsem : DmaTarget.Typed (nD := nD) .hbm (.dma (copyS 2)) (.here (p := .tc) xV)}
    {α : Type} {Q : α → sProp 𝕄} {k : PUnit → Prog (TpuEff nD τ sig (Elt F) Λ₀ .tc) α} :
    iprop(∃ f : Buf (Elt F) (xV.view.loc (c : Thread nD τ)), xV.view.loc (c : Thread nD τ) ↦{fullShare} f)
      ⊢ iprop(semVal ((c : Thread nD τ), .dma (copyS 2)) 0 -∗ (xH.view.loc (c : Thread nD τ) ↦{fullShare} xval m c)
      -∗ (xFlight m c -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma xH (.here xV) (.dma (copyS 2)) hsrc hdst hsem) k) Q) := by
  iintro ⟨%f, Hd⟩ Hz Hx Hk
  iapply (Transfers.wp_dmaLocal EC 𝒱₀ (c : Thread nD τ) none (src := xH) (dst := xV) (sm := .dma (copyS 2)) (Sd := Finset.univ)
    () NX rfl NX_pos (Finset.subset_univ _)) $$ [Hd Hx Hz]
  · isplitl [Hx]; · rw [View.set_whole]; iexact Hx
    isplitl [Hd]; · iexact Hd
    iexact Hz
  iintro Hf
  iapply Hk
  unfold xFlight
  iapply (Transfers.Flight_mono EC (c : Thread nD τ) (x_delivered m c f)) $$ Hf

/-- Its wait. -/
theorem wp_xwait (lb lr : List (Fin 7)) {hsrc : xH.view.WordExact} {hdst : xV.view.WordExact}
    {α : Type} {Q : α → sProp 𝕄} {k : PUnit → Prog (TpuEff nD τ sig (Elt F) Λ₀ .tc) α} :
    records m K ⊢ iprop(xFlight m c -∗ owesE c lb lr
      -∗ (((xV.view.loc (c : Thread nD τ) ↦{fullShare} xval m c) ∗ (xH.view.loc (c : Thread nD τ) ↦{fullShare} xval m c)
          ∗ semVal ((c : Thread nD τ), .dma (copyS 2)) 0 ∗ owesE c lb lr) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (copyS 2) xH xV hsrc hdst) k) Q) := by
  unfold xFlight owesE
  iintro #Hrec Hf ⟨%W, HO⟩ Hk
  iapply (Transfers.wp_waitLocalO EC 𝒱₀ (c : Thread nD τ) none (srcw := xH) (dstw := xV) (hsrc := hsrc) (hdst := hdst) () (N := NX) rfl (O := owed c lb lr) (W := W)) $$ [Hf HO]
  · isplitl [Hf]; · iexact Hf
    isplitl [HO]; · iexact HO
    iapply (mayWait_low c (copyS 2) (by dsimp only [lv]; rw [role_copy]) lb lr); iapply (rec_lev m K); iexact Hrec
  iintro ⟨⟨Hd, Hx⟩, Hz, HO⟩
  iapply Hk
  isplitl [Hd]; · iexact Hd
  isplitl [Hx]; · iexact Hx
  isplitl [Hz]; · iexact Hz
  iexists _; iexact HO

/-- The load of the whole scratch holding the rows of `x`. -/
theorem wp_xload (inb) {hl : xV.view.LoadsAt (Rect.unit (s := S512x4096) ![0, 0] S512x4096.size inb).toLoadRect}
    {α : Type} {Q : α → sProp 𝕄} {k : Vec F S512x4096 .f32 → Prog (TpuEff nD τ sig (Elt F) Λ₀ .tc) α} :
    iprop(xV.view.loc (c : Thread nD τ) ↦{fullShare} xval m c)
      ⊢ iprop(((xV.view.loc (c : Thread nD τ) ↦{fullShare} xval m c) -∗ wp frame (wpE (defs₀ (F := F)) 𝒱₀ (c : Thread nD τ) none) Set.univ (k (xval m c)) Q)
        -∗ wp frame (wpE (defs₀ (F := F)) 𝒱₀ (c : Thread nD τ) none) Set.univ (.op (.load xV (Rect.unit (s := S512x4096) ![0, 0] S512x4096.size inb).toLoadRect hl) k) Q) := by
  have h := wp_load (defs := defs₀ (F := F)) (Γ := .empty) 𝒱₀ (c : Thread nD τ) none Set.univ (m := xV) (hl := hl) (k := k) (Q := Q) (q := fullShare) (f := xval m c)
    (Finset.subset_univ _)
  rw [show xV.view.readAt (Elt F) (Rect.unit (s := S512x4096) ![0, 0] S512x4096.size inb).toLoadRect (xval m c) = xval m c from
    Memref.readAt_unit_zero (Elt F) cc0_scratch0 (funext fun a => by fin_cases a <;> rfl) inb (xval m c)] at h
  exact h

/-! ## The slabs -/

/-- The load of a send slab whose value nothing reads. -/
theorem wp_sload (j : Fin 7) {hl : sV.view.LoadsAt (slabR j).toLoadRect}
    {α : Type} {Q : α → sProp 𝕄} {k : Vec F S1x512x256 .bf16 → Prog (TpuEff nD τ sig (Elt F) Λ₀ .tc) α} :
    slabAny (F := F) sV c j ⊢ iprop((∀ v, slabAny sV c j -∗ wp frame (wpE (defs₀ (F := F)) 𝒱₀ (c : Thread nD τ) none) Set.univ (k v) Q) -∗ wp frame (wpE (defs₀ (F := F)) 𝒱₀ (c : Thread nD τ) none) Set.univ (.op (.load sV (slabR j).toLoadRect hl) k) Q) := by
  unfold slabAny
  iintro ⟨%f, Hs⟩ Hk
  iapply (wp_load_rect 𝒱₀ (c : Thread nD τ) none Set.univ (m := sV) (r := slabR j) (Finset.Subset.refl _)) $$ Hs
  iintro Hs
  iapply Hk
  iexists f; iexact Hs

/-- The store of a send slab. -/
theorem wp_sstore (j : Fin 7) (X : Vec F S1x512x256 .bf16) {hx : (sV.access (slabR j)).Stores Finset.univ}
    {hm : (Finset.univ : Finset (slabR j).shape.Idx) = Finset.univ ∨ ∀ a, (slabR j).stride a = 1}
    {α : Type} {Q : α → sProp 𝕄} {k : PUnit → Prog (TpuEff nD τ sig (Elt F) Λ₀ .tc) α} :
    slabAny (F := F) sV c j ⊢ iprop((slabIs sV c j X -∗ wp frame (wpE (defs₀ (F := F)) 𝒱₀ (c : Thread nD τ) none) Set.univ (k ⟨⟩) Q) -∗ wp frame (wpE (defs₀ (F := F)) 𝒱₀ (c : Thread nD τ) none) Set.univ (.op (.store sV (slabR j) X Finset.univ hx hm) k) Q) := by
  unfold slabAny slabIs
  iintro ⟨%f, Hs⟩ Hk
  iapply (wp_store 𝒱₀ (c : Thread nD τ) none Set.univ (m := sV) (r := slabR j) (Mk := Finset.univ)
    (S := (sV.view.slice (slabR j)).set) (Finset.Subset.refl _)) $$ Hs
  iintro Hs
  iapply Hk
  iexists (sV.view.slice (slabR j)).write (Elt F) f X Finset.univ
  isplitr
  · ipureintro; exact View.read_write_univ (v := sV.view.slice (slabR j)) f X
  iexact Hs

/-- A copied slab is what the receive cell's duty hands over. -/
theorem send_lands (j : Fin 7) (fs : Buf (Elt F) (sV.view.loc (c : Thread nD τ))) (hfs : (sV.view.slice (slabR j)).read (Elt F) fs = sendVal m c j)
    (fd : Buf (Elt F) (rV.view.loc (peer c j : Thread nD τ))) :
    iprop((recvM j).view.loc (peer c j : Thread nD τ) ↦[(recvM j).view.set]{fullShare}
        (recvM j).view.write (Elt F) fd ((sendM j).view.read (Elt F) fs) Finset.univ)
      ⊢ (ringRd (F := F) m).payload (recvCell (peer c j) j) 0 0 := by
  rw [payload_recv, src_peer, recv_set]; unfold slabIs
  iintro H; iexists _
  isplitr
  · ipureintro; exact (landed_read j fd fs).trans hfs
  iexact H

/-- The sent slab is what the send cell's duty hands back. -/
theorem send_leaves (j : Fin 7) (fs : Buf (Elt F) (sV.view.loc (c : Thread nD τ))) :
    iprop((sendM j).view.loc (c : Thread nD τ) ↦[(sendM j).view.set]{fullShare} fs) ⊢ (ringRd (F := F) m).payload (sendCell c j) 0 0 := by
  rw [payload_send, send_set]; unfold slabAny
  iintro H; iexists fs; iexact H

/-- The copy of slab `j` to the device it goes to. -/
theorem wp_send (j : Fin 7) (lr : List (Fin 7)) (n : Dev nD) (hn : n = peer c j)
    {hsc : (recvM j : Memref sig (Dev.tc n : Thread nD τ).2.kind .vmem S512x256 .bf16).view.ref.isScScratch = false}
    {hsrc : (sendM j).view.WordExact} {hdst : (recvM j).view.WordExact}
    {hsem : DmaTarget.Typed .vmem (.dma (recvS j)) (.remote (Dev.tc n : Thread nD τ) (recvM j) (.dma (sendS j)) hsc)}
    {α : Type} {Q : α → sProp 𝕄} {k : PUnit → Prog (TpuEff nD τ sig (Elt F) Λ₀ .tc) α} :
    records m K ⊢ iprop(sendRes c j -∗ slabIs sV c j (sendVal m c j) -∗ slabAny rV (peer c j) j -∗ owesE c [] (j :: lr)
      -∗ ((cred (tallyAt (sendCell c j) () N) ∗ owesE c [] lr) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma (sendM j) (.remote (Dev.tc n : Thread nD τ) (recvM j) (.dma (sendS j)) hsc) (.dma (recvS j)) hsrc hdst hsem) k) Q) := by
  subst hn
  unfold sendRes owesE
  iintro #Hrec ⟨Ht₁, Ht₂⟩ Hs Hd ⟨%W, HO⟩ Hk
  unfold slabIs slabAny
  icases Hs with ⟨%fs, %hfs, Hs⟩
  icases Hd with ⟨%fd, Hd⟩
  iapply (Rounds.wp_send_pointsTo 𝒱₀ ER (ringRd m) (c : Thread nD τ) none (κ₁ := K (kSend c j)) (κ₂ := K (kRecv (peer c j) j))
    (c' := (peer c j : Thread nD τ)) (src := sendM j)
    (dst := (recvM j : Memref sig (Dev.tc (peer c j) : Thread nD τ).2.kind .vmem S512x256 .bf16)) (r₁ := 0) (r₂ := 0) (d₁ := 0) (d₂ := 0) (fs := fs) (fd := fd) (q := fullShare)
    (by rw [duties_send]; exact Finset.mem_singleton_self _) (by rw [duties_recv]; exact Finset.mem_singleton_self _)
    () () N rfl (amount_send m c j 0) (amount_recv m (peer c j) j 0) (owed c [] lr) rfl (W := W)
    (send_leaves m c j fs) (send_lands m c j fs hfs fd)) $$ [Ht₁ Ht₂ Hs Hd HO]
  · isplitr; · iapply (inv_send m K c j); iexact Hrec
    isplitr; · iapply (inv_recv m K (peer c j) j); iexact Hrec
    isplitl [Hs]; · rw [send_set]; iexact Hs
    isplitl [Hd]; · rw [recv_set]; iexact Hd
    isplitl [HO]; · iexact HO
    isplitl [Ht₁]; · iexact Ht₁
    isplitr; · iapply (reached_send m K c j); iexact Hrec
    isplitl [Ht₂]; · iexact Ht₂
    iapply (reached_recv m K (peer c j) j); iexact Hrec
  iintro ⟨Hc, HO⟩
  iapply Hk
  isplitl [Hc]; · iexact Hc
  iexists W; iexact HO

/-- The wait for slab `j` to arrive. -/
theorem wp_rwait (j : Fin 7) {s' : Shape} {e' : EltTy} {sp' : Space} {srcw : Memref sig .tc sp' s' e'} {hsrc : srcw.view.WordExact} {hdst : (recvM j).view.WordExact}
    {α : Type} {Q : α → sProp 𝕄} {k : PUnit → Prog (TpuEff nD τ sig (Elt F) Λ₀ .tc) α} :
    records m K ⊢ iprop(recvRes c j -∗ owesE c [] []
      -∗ ((slabIs rV c j (sendVal m (src c j) j) ∗ semVal (recvCell c j) 0 ∗ owesE c [] []) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (recvS j) srcw (recvM j) hsrc hdst) k) Q) := by
  unfold recvRes owesE
  iintro #Hrec ⟨Hc, Hat⟩ ⟨%W, HO⟩ Hk
  iapply (Rounds.wp_wait_rest_token 𝒱₀ ER (ringRd m) (c : Thread nD τ) none (κ := K (kRecv c j))
      (wpE_waitDma2_eq 𝒱₀ (c : Thread nD τ) none Set.univ) (Set.mem_univ _) () (O := owed c [] []) (W := W) (R := 0) (m := 0) (T := ∅)
      (by rw [Nat.zero_add, expect_recv])) $$ [Hc HO Hat]
  · isplitr; · iapply (inv_recv m K c j); iexact Hrec
    isplitl [Hc]; · iexact Hc
    isplitl [HO]; · iexact HO
    isplitr; · rw [show owed c [] [] = 0 from rfl, MayWait_zero]; iempintro
    iexact Hat
  iintro ⟨HO, Hat, -, Hp⟩
  ihave Hp := (Entails.of_eq (rest_recv m c j)) $$ Hp
  imod (Rounds.cell_close ER (ringRd m) (Set.mem_univ (K (kRecv c j))) (fun h => h) (R := 0 + 1) (duties_later m (recvCell c j))) $$ [Hat] with Hz
  · isplitr; · iapply (inv_recv m K c j); iexact Hrec
    iexact Hat
  iapply Hk
  isplitl [Hp]; · iexact Hp
  isplitl [Hz]; · iexact Hz
  iexists _; iexact HO

/-- The load of an arrived slab. -/
theorem wp_rload (j : Fin 7) (X : Vec F S1x512x256 .bf16) {hl : rV.view.LoadsAt (slabR j).toLoadRect}
    {α : Type} {Q : α → sProp 𝕄} {k : Vec F S1x512x256 .bf16 → Prog (TpuEff nD τ sig (Elt F) Λ₀ .tc) α} :
    slabIs (F := F) rV c j X ⊢ iprop((slabAny rV c j -∗ wp frame (wpE (defs₀ (F := F)) 𝒱₀ (c : Thread nD τ) none) Set.univ (k X) Q) -∗ wp frame (wpE (defs₀ (F := F)) 𝒱₀ (c : Thread nD τ) none) Set.univ (.op (.load rV (slabR j).toLoadRect hl) k) Q) := by
  unfold slabIs slabAny
  iintro ⟨%f, %hf, Hs⟩ Hk
  iapply (wp_load_rect 𝒱₀ (c : Thread nD τ) none Set.univ (m := rV) (r := slabR j) (Finset.Subset.refl _)) $$ Hs
  iintro Hs
  ispecialize Hk $$ [Hs]
  · iexists f; iexact Hs
  rw [← hf]
  iexact Hk

/-- The wait for slab `j` to have left: the slab is the device's again. -/
theorem wp_swait (j : Fin 7) {s' : Shape} {e' : EltTy} {sp' : Space} {srcw : Memref sig .tc sp' s' e'} {hsrc : srcw.view.WordExact} {hdst : (sendM j).view.WordExact}
    {α : Type} {Q : α → sProp 𝕄} {k : PUnit → Prog (TpuEff nD τ sig (Elt F) Λ₀ .tc) α} :
    records m K ⊢ iprop(cred (tallyAt (sendCell c j) () N) -∗ atPos ER (sendCell c j) 0 ∅ 0 -∗ owesE c [] []
      -∗ ((slabAny sV c j ∗ semVal (sendCell c j) 0 ∗ owesE c [] []) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (sendS j) srcw (sendM j) hsrc hdst) k) Q) := by
  unfold owesE
  iintro #Hrec Hc Hat ⟨%W, HO⟩ Hk
  iapply (Rounds.wp_wait_rest_token 𝒱₀ ER (ringRd m) (c : Thread nD τ) none (κ := K (kSend c j))
      (wpE_waitDma2_eq 𝒱₀ (c : Thread nD τ) none Set.univ) (Set.mem_univ _) () (O := owed c [] []) (W := W) (R := 0) (m := 0) (T := ∅)
      (by rw [Nat.zero_add, expect_send])) $$ [Hc HO Hat]
  · isplitr; · iapply (inv_send m K c j); iexact Hrec
    isplitl [Hc]; · iexact Hc
    isplitl [HO]; · iexact HO
    isplitr; · rw [show owed c [] [] = 0 from rfl, MayWait_zero]; iempintro
    iexact Hat
  iintro ⟨HO, Hat, -, Hp⟩
  ihave Hp := (Entails.of_eq (rest_send m c j)) $$ Hp
  imod (Rounds.cell_close ER (ringRd m) (Set.mem_univ (K (kSend c j))) (fun h => h) (R := 0 + 1) (duties_later m (sendCell c j))) $$ [Hat] with Hz
  · isplitr; · iapply (inv_send m K c j); iexact Hrec
    iexact Hat
  iapply Hk
  isplitl [Hp]; · iexact Hp
  isplitl [Hz]; · iexact Hz
  iexists _; iexact HO

end Steps

end Cert.KernelIdealProof

end
-- ==== Proof.KernelIdealOut.lean ====
/- # `Out`: the output buffer, one row block at a time

Row block `e` of a device's output is the activation of what device `e` sent it, or of its own product when `e` is the device itself.
The stores fill the row blocks in the order in which the slabs arrive. -/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-! ## The contents -/

/-- The slab in which device `e`'s product reaches device `c`. -/
def slabOf (c e : Dev nD) : Fin 7 := ⟨(c.val + 15 - e.val) % 8 % 7, Nat.mod_lt _ (by decide)⟩

/-- Device `e` sends to `c` in the slab whose source, seen from `c`, is `e`. -/
theorem slabOf_src (c : Dev nD) (j : Fin 7) : slabOf c (src c j) = j := by revert c j; decide

/-- A device receives nothing from itself. -/
theorem src_ne (c : Dev nD) (j : Fin 7) : src c j ≠ c := by revert c j; decide

/-- The row blocks written are all of them. -/
theorem rows_all (c : Dev nD) :
    insert (src c 6) (insert (src c 5) (insert (src c 4) (insert (src c 3) (insert (src c 2) (insert (src c 1)
      (insert (src c 0) (insert c (∅ : Finset (Dev nD))))))))) = Finset.univ := by revert c; decide

/-- Row block `e` of the output of device `c`. -/
def blkVal (c e : Dev nD) : Vec F S512x256 .f32 :=
  if e = c then k0_pay10 (k0_pay9 (k0_pay1 (xval m c)) (wslab m c 7)) (Scalar.ofBits .f32 0x3F000000#32)
  else k0_pay11 (sendVal m e (slabOf c e))

theorem blkVal_self (c : Dev nD) :
    blkVal m c c = k0_pay10 (k0_pay9 (k0_pay1 (xval m c)) (wslab m c 7)) (Scalar.ofBits .f32 0x3F000000#32) := if_pos rfl

theorem blkVal_src (c : Dev nD) (j : Fin 7) : blkVal m c (src c j) = k0_pay11 (sendVal m (src c j) j) := by
  rw [blkVal, if_neg (src_ne c j), slabOf_src]

/-- The row block an index of the output lies in. -/
def rowBlk (i : S4096x256.Idx) : Dev nD := ⟨(i 0).val / 512, by have h : (i 0).val < 4096 := (i 0).isLt; show _ < 8; omega⟩

/-- An index's place in its row block. -/
def inBlk (i : S4096x256.Idx) : S512x256.Idx := fun a => match a with
  | 0 => ⟨(i 0).val % 512, Nat.mod_lt _ (by decide)⟩
  | 1 => ⟨(i 1).val, (i 1).isLt⟩

/-- The output of device `c`. -/
def outAt (c : Dev nD) : Vec F S4096x256 .f32 := fun i => blkVal m c (rowBlk i) (inBlk i)

/-- The row blocks in `S` hold the output. -/
def Filled (c : Dev nD) (S : Finset (Dev nD)) (f : Vec F S4096x256 .f32) : Prop := ∀ i, rowBlk i ∈ S → f i = outAt m c i

theorem filled_univ {c : Dev nD} {f : Vec F S4096x256 .f32} (h : Filled m c Finset.univ f) : f = outAt m c :=
  funext fun i => h i (Finset.mem_univ _)

/-- The output buffer of device `c` with the row blocks in `S` written. -/
def oAt (c : Dev nD) (S : Finset (Dev nD)) : sProp 𝕄 :=
  iprop(∃ f : Buf (Elt F) (oM.view.loc (c : Thread nD τ)), ⌜Filled m c S f⌝ ∗ oM.view.loc (c : Thread nD τ) ↦{fullShare} f)

/-- A store of row block `e` fills it and leaves the others. -/
theorem filled_store (c e : Dev nD) (S : Finset (Dev nD)) (off : Fin 2 → ℕ) (inb) (he : off = ![512 * e.val, 0])
    (f : Vec F S4096x256 .f32) (hf : Filled m c S f) :
    Filled m c (insert e S) ((oM.access (Rect.unit (s := S4096x256) off S512x256.size inb)).write (Elt F) f (blkVal m c e) Finset.univ) := by
  subst he
  intro i hi
  have hi0 : (i 0).val < 4096 := (i 0).isLt
  have hi1 : (i 1).val < 256 := (i 1).isLt
  by_cases hr : rowBlk i = e
  · have hv : (i 0).val / 512 = e.val := congrArg Fin.val hr
    have hemb : (oM.access (Rect.unit (s := S4096x256) ![512 * e.val, 0] S512x256.size inb)).emb (inBlk i) = i := by
      funext a
      refine Fin.ext ?_
      match a with
      | 0 => show 512 * e.val + 1 * ((i 0).val % 512) = (i 0).val; omega
      | 1 => show 0 + 1 * (i 1).val = (i 1).val; omega
    have h := View.write_emb_of_mem (Val := Elt F) (v := oM.access (Rect.unit (s := S4096x256) ![512 * e.val, 0] S512x256.size inb)) f (blkVal m c e)
      (M := Finset.univ) (x := inBlk i) (Finset.mem_univ _)
    rw [hemb] at h
    refine h.trans ?_
    show blkVal m c e (inBlk i) = blkVal m c (rowBlk i) (inBlk i)
    rw [hr]
  · have hS : rowBlk i ∈ S := (Finset.mem_insert.mp hi).resolve_left hr
    refine (View.write_of_not_mem (Val := Elt F) (v := oM.access (Rect.unit (s := S4096x256) ![512 * e.val, 0] S512x256.size inb)) f (blkVal m c e) Finset.univ ?_).trans (hf i hS)
    rw [View.setOn_univ]
    intro hmem
    obtain ⟨x, -, hx⟩ := Finset.mem_map.mp hmem
    apply hr
    have h0 : 512 * e.val + 1 * (x 0).val = (i 0).val := congrArg (fun j : S4096x256.Idx => (j 0).val) hx
    have hx0 : (x 0).val < 512 := (x 0).isLt
    exact Fin.ext (by show (i 0).val / 512 = e.val; omega)

variable (c : Dev nD)

/-- The load of a row block of the output whose value nothing reads. -/
theorem wp_oload (S : Finset (Dev nD)) (r : Rect S4096x256) {hl : oM.view.LoadsAt r.toLoadRect}
    {α : Type} {Q : α → sProp 𝕄} {k : Vec F r.toLoadRect.shape .f32 → Prog (TpuEff nD τ sig (Elt F) Λ₀ .tc) α} :
    oAt m c S ⊢ iprop((∀ v, oAt m c S -∗ wp frame (wpE (defs₀ (F := F)) 𝒱₀ (c : Thread nD τ) none) Set.univ (k v) Q) -∗ wp frame (wpE (defs₀ (F := F)) 𝒱₀ (c : Thread nD τ) none) Set.univ (.op (.load oM r.toLoadRect hl) k) Q) := by
  unfold oAt
  iintro ⟨%f, %hf, Ho⟩ Hk
  iapply (wp_load_rect 𝒱₀ (c : Thread nD τ) none Set.univ (m := oM) (r := r) (Finset.subset_univ _)) $$ Ho
  iintro Ho
  iapply Hk
  iexists f; isplitr
  · ipureintro; exact hf
  iexact Ho

/-- The store of row block `e` of the output. -/
theorem wp_ostore (e : Dev nD) (S : Finset (Dev nD)) (off : Fin 2 → ℕ) (inb) (he : off = ![512 * e.val, 0]) (X : Vec F S512x256 .f32) (hX : X = blkVal m c e)
    {hx : (oM.access (Rect.unit (s := S4096x256) off S512x256.size inb)).Stores Finset.univ}
    {hm : (Finset.univ : Finset (Rect.unit (s := S4096x256) off S512x256.size inb).shape.Idx) = Finset.univ ∨ ∀ a, (Rect.unit (s := S4096x256) off S512x256.size inb).stride a = 1}
    {α : Type} {Q : α → sProp 𝕄} {k : PUnit → Prog (TpuEff nD τ sig (Elt F) Λ₀ .tc) α} :
    oAt m c S ⊢ iprop((oAt m c (insert e S) -∗ wp frame (wpE (defs₀ (F := F)) 𝒱₀ (c : Thread nD τ) none) Set.univ (k ⟨⟩) Q)
      -∗ wp frame (wpE (defs₀ (F := F)) 𝒱₀ (c : Thread nD τ) none) Set.univ (.op (.store oM (Rect.unit (s := S4096x256) off S512x256.size inb) X Finset.univ hx hm) k) Q) := by
  subst hX
  unfold oAt
  iintro ⟨%f, %hf, Ho⟩ Hk
  iapply (wp_store 𝒱₀ (c : Thread nD τ) none Set.univ (m := oM) (r := Rect.unit (s := S4096x256) off S512x256.size inb) (Mk := Finset.univ)
    (S := Finset.univ) (Finset.subset_univ _)) $$ Ho
  iintro Ho
  iapply Hk
  iexists _
  isplitr
  · ipureintro; exact filled_store m c e S off inb he f hf
  iexact Ho

end Cert.KernelIdealProof
-- ==== Proof.KernelIdealBody.lean ====
/- # `Body`: one run of the kernel's body on device `c`

What the body starts with, what it ends with, and the run itself: each operation is one of the step lemmas. -/
module

public import proofs.«01_k».proof.Proof.KernelIdealOut

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-- A separating conjunction over the seven slabs, spelled out. -/
theorem seven (Φ : Fin 7 → sProp 𝕄) :
    bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  simp only [bigSepL_cons_cons, bigSepL_singleton]
  rfl

/-- What device `c` takes into the body besides its debts: its permissions to signal and to send, its own cells' positions and credits,
its scratch buffers, its arguments, the local copies' semaphores and the output buffer. -/
def bodyIn (c : Dev nD) : sProp 𝕄 :=
  iprop(bigSep Finset.univ (fun j : Fin 7 => sigRes (F := F) c j) ∗ cred (tallyAt (barCell c) () 7) ∗ atPos ER (barCell c) 0 ∅ 0
    ∗ bigSep Finset.univ (fun j : Fin 7 => slabAny (F := F) sV c j) ∗ bigSep Finset.univ (fun j : Fin 7 => sendRes (F := F) c j)
    ∗ bigSep Finset.univ (fun j : Fin 7 => recvRes (F := F) c j) ∗ bigSep Finset.univ (fun j : Fin 7 => atPos ER (sendCell c j) 0 ∅ 0)
    ∗ slotAny (F := F) c 0 ∗ slotAny (F := F) c 1 ∗ wHeld m c fullShare.left ∗ wHeld m c fullShare.right
    ∗ (∃ f : Buf (Elt F) (xV.view.loc (c : Thread nD τ)), xV.view.loc (c : Thread nD τ) ↦{fullShare} f)
    ∗ (xH.view.loc (c : Thread nD τ) ↦{fullShare} xval m c)
    ∗ semVal ((c : Thread nD τ), .dma (slotS 0)) 0 ∗ semVal ((c : Thread nD τ), .dma (slotS 1)) 0 ∗ semVal ((c : Thread nD τ), .dma (copyS 2)) 0
    ∗ oAt m c ∅)

/-- What it hands back: its scratch buffers, its arguments, every semaphore at zero and the output buffer with every row block written. -/
def bodyOut (c : Dev nD) : sProp 𝕄 :=
  iprop(owesE (F := F) c [] [] ∗ bigSep Finset.univ (fun j : Fin 7 => slabAny (F := F) sV c j) ∗ bigSep Finset.univ (fun j : Fin 7 => slabAny (F := F) rV c j)
    ∗ slotAny (F := F) c 0 ∗ slotAny (F := F) c 1 ∗ wHeld m c fullShare.left ∗ wHeld m c fullShare.right
    ∗ (xV.view.loc (c : Thread nD τ) ↦{fullShare} xval m c) ∗ (xH.view.loc (c : Thread nD τ) ↦{fullShare} xval m c)
    ∗ semVal ((c : Thread nD τ), .dma (slotS 0)) 0 ∗ semVal ((c : Thread nD τ), .dma (slotS 1)) 0 ∗ semVal ((c : Thread nD τ), .dma (copyS 2)) 0
    ∗ semVal (barCell c) 0 ∗ bigSep Finset.univ (fun j : Fin 7 => semVal (sendCell c j) 0) ∗ bigSep Finset.univ (fun j : Fin 7 => semVal (recvCell c j) 0)
    ∗ oAt m c Finset.univ)

/-- The body, from `bodyIn` to `bodyOut`. -/
theorem body_run (K : CI → ℕ) (c : Dev nD) (h0 : xH.IsWhole) (h1 : wH.IsWhole) (h2 : oM.IsWhole) (h3 : xV.IsWhole) (h4 : wV.IsWhole) (h5 : sV.IsWhole) (h6 : rV.IsWhole) :
    records m K ⊢ iprop(owesE c all7 all7 -∗ bodyIn m c
      -∗ wp frame (wpE (defs₀ (F := F)) 𝒱₀ (c : Thread nD τ) none) Set.univ (cc0_body (F := F) xH h0 wH h1 oM h2 xV h3 wV h4 sV h5 rV h6 cc0_scratch4 cc0_scratch5 cc0_scratch6) (fun _ => bodyOut m c)) := by
  unfold bodyIn bodyOut all7
  simp only [seven]
  iintro #Hrec HO ⟨⟨Hs0, Hs1, Hs2, Hs3, Hs4, Hs5, Hs6⟩, Hb, Hbp, ⟨Hv0, Hv1, Hv2, Hv3, Hv4, Hv5, Hv6⟩, ⟨Hd0, Hd1, Hd2, Hd3, Hd4, Hd5, Hd6⟩, ⟨Hr0, Hr1, Hr2, Hr3, Hr4, Hr5, Hr6⟩, ⟨Ha0, Ha1, Ha2, Ha3, Ha4, Ha5, Ha6⟩, HS0, HS1, HW0, HW1, Hxv, Hx, HZ0, HZ1, HZ2, Ho⟩
  rw [cc0_body_eq_skeleton, cc0_body_skel, k0_part28_eq_skeleton, k0_part28_skel]
  -- part 1
  simp only [k0_part1_eq_skeleton, k0_part1_skel, semSignalWord, semWaitWord, Prog.lift, Prog.bind_op, Prog.bind_ret, Prog.pure_eq_ret, wp_deviceId]
  iapply (wp_xcopy m c) $$ Hxv HZ2 Hx
  iintro Hx
  iapply (wp_wcopy m c 0 0 fullShare.left) $$ HS0 HZ0 HW0
  iintro HS0
  -- part 2
  simp only [k0_part2_eq_skeleton, k0_part2_skel, semSignalWord, semWaitWord, Prog.lift, Prog.bind_op, Prog.bind_ret, Prog.pure_eq_ret, wp_deviceId]
  iapply (wp_sig m K c 0 [1, 2, 3, 4, 5, 6] [0, 1, 2, 3, 4, 5, 6] _ (dev1_eq c)) $$ Hrec Hs0 HO
  iintro HO
  iapply (wp_sig m K c 1 [2, 3, 4, 5, 6] [0, 1, 2, 3, 4, 5, 6] _ (dev2_eq c)) $$ Hrec Hs1 HO
  iintro HO
  iapply (wp_sig m K c 2 [3, 4, 5, 6] [0, 1, 2, 3, 4, 5, 6] _ (dev3_eq c)) $$ Hrec Hs2 HO
  iintro HO
  -- part 3
  simp only [k0_part3_eq_skeleton, k0_part3_skel, semSignalWord, semWaitWord, Prog.lift, Prog.bind_op, Prog.bind_ret, Prog.pure_eq_ret, wp_deviceId]
  iapply (wp_sig m K c 3 [4, 5, 6] [0, 1, 2, 3, 4, 5, 6] _ (dev4_eq c)) $$ Hrec Hs3 HO
  iintro HO
  iapply (wp_sig m K c 4 [5, 6] [0, 1, 2, 3, 4, 5, 6] _ (dev5_eq c)) $$ Hrec Hs4 HO
  iintro HO
  -- part 4
  simp only [k0_part4_eq_skeleton, k0_part4_skel, semSignalWord, semWaitWord, Prog.lift, Prog.bind_op, Prog.bind_ret, Prog.pure_eq_ret, wp_deviceId]
  iapply (wp_sig m K c 5 [6] [0, 1, 2, 3, 4, 5, 6] _ (dev6_eq c)) $$ Hrec Hs5 HO
  iintro HO
  iapply (wp_sig m K c 6 [] [0, 1, 2, 3, 4, 5, 6] _ (dev7_eq c)) $$ Hrec Hs6 HO
  iintro HO
  iapply (wp_barwait m K c [0, 1, 2, 3, 4, 5, 6]) $$ Hrec Hb Hbp HO
  iintro ⟨HO, Hbz, Hp⟩
  ihave Hp := (Entails.of_eq (seven (fun j => slabAny (F := F) rV (peer c j) j))) $$ Hp
  icases Hp with ⟨Hp0, Hp1, Hp2, Hp3, Hp4, Hp5, Hp6⟩
  iapply (wp_xwait m K c [] [0, 1, 2, 3, 4, 5, 6]) $$ Hrec Hx HO
  iintro ⟨Hxv, Hx, HZ2, HO⟩
  iapply (wp_xload m c _) $$ Hxv
  iintro Hxv
  -- part 5
  simp only [k0_part5_eq_skeleton, k0_part5_skel, semSignalWord, semWaitWord, Prog.lift, Prog.bind_op, Prog.bind_ret, Prog.pure_eq_ret, wp_deviceId]
  iapply (wp_wcopy m c 1 1 fullShare.right) $$ HS1 HZ1 HW1
  iintro HS1
  iapply (wp_wwait m K c 0 0 fullShare.left [] [0, 1, 2, 3, 4, 5, 6]) $$ Hrec HS0 HO
  iintro ⟨HS0, HZ0, HW0, HO⟩
  iapply (wp_wload c 0 (wslab m c 0)) $$ HS0
  iintro HS0
  iapply (wp_sload c 0) $$ Hv0
  iintro %_ Hv0
  iapply (wp_sstore c 0 (sendVal m c 0)) $$ Hv0
  iintro Hv0
  -- part 6
  simp only [k0_part6_eq_skeleton, k0_part6_skel, semSignalWord, semWaitWord, Prog.lift, Prog.bind_op, Prog.bind_ret, Prog.pure_eq_ret, wp_deviceId]
  iapply (wp_send m K c 0 [1, 2, 3, 4, 5, 6] _ (dev8_eq c)) $$ Hrec Hd0 Hv0 Hp0 HO
  iintro ⟨Hv0, HO⟩
  -- part 7
  simp only [k0_part7_eq_skeleton, k0_part7_skel, semSignalWord, semWaitWord, Prog.lift, Prog.bind_op, Prog.bind_ret, Prog.pure_eq_ret, wp_deviceId]
  iapply (wp_wcopy m c 2 0 fullShare.left) $$ HS0 HZ0 HW0
  iintro HS0
  iapply (wp_wwait m K c 1 1 fullShare.right [] [1, 2, 3, 4, 5, 6]) $$ Hrec HS1 HO
  iintro ⟨HS1, HZ1, HW1, HO⟩
  iapply (wp_wload c 1 (wslab m c 1)) $$ HS1
  iintro HS1
  iapply (wp_sload c 1) $$ Hv1
  iintro %_ Hv1
  iapply (wp_sstore c 1 (sendVal m c 1)) $$ Hv1
  iintro Hv1
  -- part 8
  simp only [k0_part8_eq_skeleton, k0_part8_skel, semSignalWord, semWaitWord, Prog.lift, Prog.bind_op, Prog.bind_ret, Prog.pure_eq_ret, wp_deviceId]
  iapply (wp_send m K c 1 [2, 3, 4, 5, 6] _ (dev9_eq c)) $$ Hrec Hd1 Hv1 Hp1 HO
  iintro ⟨Hv1, HO⟩
  -- part 9
  simp only [k0_part9_eq_skeleton, k0_part9_skel, semSignalWord, semWaitWord, Prog.lift, Prog.bind_op, Prog.bind_ret, Prog.pure_eq_ret, wp_deviceId]
  iapply (wp_wcopy m c 3 1 fullShare.right) $$ HS1 HZ1 HW1
  iintro HS1
  iapply (wp_wwait m K c 2 0 fullShare.left [] [2, 3, 4, 5, 6]) $$ Hrec HS0 HO
  iintro ⟨HS0, HZ0, HW0, HO⟩
  iapply (wp_wload c 0 (wslab m c 2)) $$ HS0
  iintro HS0
  iapply (wp_sload c 2) $$ Hv2
  iintro %_ Hv2
  iapply (wp_sstore c 2 (sendVal m c 2)) $$ Hv2
  iintro Hv2
  -- part 10
  simp only [k0_part10_eq_skeleton, k0_part10_skel, semSignalWord, semWaitWord, Prog.lift, Prog.bind_op, Prog.bind_ret, Prog.pure_eq_ret, wp_deviceId]
  iapply (wp_send m K c 2 [3, 4, 5, 6] _ (dev10_eq c)) $$ Hrec Hd2 Hv2 Hp2 HO
  iintro ⟨Hv2, HO⟩
  -- part 11
  simp only [k0_part11_eq_skeleton, k0_part11_skel, semSignalWord, semWaitWord, Prog.lift, Prog.bind_op, Prog.bind_ret, Prog.pure_eq_ret, wp_deviceId]
  iapply (wp_wcopy m c 4 0 fullShare.left) $$ HS0 HZ0 HW0
  iintro HS0
  iapply (wp_wwait m K c 3 1 fullShare.right [] [3, 4, 5, 6]) $$ Hrec HS1 HO
  iintro ⟨HS1, HZ1, HW1, HO⟩
  iapply (wp_wload c 1 (wslab m c 3)) $$ HS1
  iintro HS1
  iapply (wp_sload c 3) $$ Hv3
  iintro %_ Hv3
  iapply (wp_sstore c 3 (sendVal m c 3)) $$ Hv3
  iintro Hv3
  -- part 12
  simp only [k0_part12_eq_skeleton, k0_part12_skel, semSignalWord, semWaitWord, Prog.lift, Prog.bind_op, Prog.bind_ret, Prog.pure_eq_ret, wp_deviceId]
  iapply (wp_send m K c 3 [4, 5, 6] _ (dev11_eq c)) $$ Hrec Hd3 Hv3 Hp3 HO
  iintro ⟨Hv3, HO⟩
  iapply (wp_wcopy m c 5 1 fullShare.right) $$ HS1 HZ1 HW1
  iintro HS1
  -- part 13
  simp only [k0_part13_eq_skeleton, k0_part13_skel, semSignalWord, semWaitWord, Prog.lift, Prog.bind_op, Prog.bind_ret, Prog.pure_eq_ret, wp_deviceId]
  iapply (wp_wwait m K c 4 0 fullShare.left [] [4, 5, 6]) $$ Hrec HS0 HO
  iintro ⟨HS0, HZ0, HW0, HO⟩
  iapply (wp_wload c 0 (wslab m c 4)) $$ HS0
  iintro HS0
  iapply (wp_sload c 4) $$ Hv4
  iintro %_ Hv4
  iapply (wp_sstore c 4 (sendVal m c 4)) $$ Hv4
  iintro Hv4
  -- part 14
  simp only [k0_part14_eq_skeleton, k0_part14_skel, semSignalWord, semWaitWord, Prog.lift, Prog.bind_op, Prog.bind_ret, Prog.pure_eq_ret, wp_deviceId]
  iapply (wp_send m K c 4 [5, 6] _ (dev12_eq c)) $$ Hrec Hd4 Hv4 Hp4 HO
  iintro ⟨Hv4, HO⟩
  iapply (wp_wcopy m c 6 0 fullShare.left) $$ HS0 HZ0 HW0
  iintro HS0
  -- part 15
  simp only [k0_part15_eq_skeleton, k0_part15_skel, semSignalWord, semWaitWord, Prog.lift, Prog.bind_op, Prog.bind_ret, Prog.pure_eq_ret, wp_deviceId]
  iapply (wp_wwait m K c 5 1 fullShare.right [] [5, 6]) $$ Hrec HS1 HO
  iintro ⟨HS1, HZ1, HW1, HO⟩
  iapply (wp_wload c 1 (wslab m c 5)) $$ HS1
  iintro HS1
  iapply (wp_sload c 5) $$ Hv5
  iintro %_ Hv5
  iapply (wp_sstore c 5 (sendVal m c 5)) $$ Hv5
  iintro Hv5
  -- part 16
  simp only [k0_part16_eq_skeleton, k0_part16_skel, semSignalWord, semWaitWord, Prog.lift, Prog.bind_op, Prog.bind_ret, Prog.pure_eq_ret, wp_deviceId]
  iapply (wp_send m K c 5 [6] _ (dev13_eq c)) $$ Hrec Hd5 Hv5 Hp5 HO
  iintro ⟨Hv5, HO⟩
  iapply (wp_wcopy m c 7 1 fullShare.right) $$ HS1 HZ1 HW1
  iintro HS1
  -- part 17
  simp only [k0_part17_eq_skeleton, k0_part17_skel, semSignalWord, semWaitWord, Prog.lift, Prog.bind_op, Prog.bind_ret, Prog.pure_eq_ret, wp_deviceId]
  iapply (wp_wwait m K c 6 0 fullShare.left [] [6]) $$ Hrec HS0 HO
  iintro ⟨HS0, HZ0, HW0, HO⟩
  iapply (wp_wload c 0 (wslab m c 6)) $$ HS0
  iintro HS0
  iapply (wp_sload c 6) $$ Hv6
  iintro %_ Hv6
  iapply (wp_sstore c 6 (sendVal m c 6)) $$ Hv6
  iintro Hv6
  -- part 18
  simp only [k0_part18_eq_skeleton, k0_part18_skel, semSignalWord, semWaitWord, Prog.lift, Prog.bind_op, Prog.bind_ret, Prog.pure_eq_ret, wp_deviceId]
  iapply (wp_send m K c 6 [] _ (dev14_eq c)) $$ Hrec Hd6 Hv6 Hp6 HO
  iintro ⟨Hv6, HO⟩
  iapply (wp_wwait m K c 7 1 fullShare.right [] []) $$ Hrec HS1 HO
  iintro ⟨HS1, HZ1, HW1, HO⟩
  iapply (wp_wload c 1 (wslab m c 7)) $$ HS1
  iintro HS1
  -- part 19
  simp only [k0_part19_eq_skeleton, k0_part19_skel, semSignalWord, semWaitWord, Prog.lift, Prog.bind_op, Prog.bind_ret, Prog.pure_eq_ret, wp_deviceId]
  iapply (wp_oload m c (∅ : Finset (Dev nD)) _) $$ Ho
  iintro %_ Ho
  iapply (wp_ostore m c c (∅ : Finset (Dev nD)) _ _ (k0_off2_eq c) _ ((blkVal_self m c).symm)) $$ Ho
  iintro Ho
  iapply (wp_rwait m K c 0) $$ Hrec Hr0 HO
  iintro ⟨Hr0, Hrz0, HO⟩
  -- part 20
  simp only [k0_part20_eq_skeleton, k0_part20_skel, semSignalWord, semWaitWord, Prog.lift, Prog.bind_op, Prog.bind_ret, Prog.pure_eq_ret, wp_deviceId]
  iapply (wp_rload c 0 (sendVal m (src c 0) 0)) $$ Hr0
  iintro Hr0
  iapply (wp_oload m c (insert c ∅) _) $$ Ho
  iintro %_ Ho
  iapply (wp_ostore m c (src c 0) (insert c ∅) _ _ (off3_eq c 0) _ ((blkVal_src m c 0).symm)) $$ Ho
  iintro Ho
  iapply (wp_rwait m K c 1) $$ Hrec Hr1 HO
  iintro ⟨Hr1, Hrz1, HO⟩
  -- part 21
  simp only [k0_part21_eq_skeleton, k0_part21_skel, semSignalWord, semWaitWord, Prog.lift, Prog.bind_op, Prog.bind_ret, Prog.pure_eq_ret, wp_deviceId]
  iapply (wp_rload c 1 (sendVal m (src c 1) 1)) $$ Hr1
  iintro Hr1
  iapply (wp_oload m c (insert (src c 0) (insert c ∅)) _) $$ Ho
  iintro %_ Ho
  iapply (wp_ostore m c (src c 1) (insert (src c 0) (insert c ∅)) _ _ (off3_eq c 1) _ ((blkVal_src m c 1).symm)) $$ Ho
  iintro Ho
  iapply (wp_rwait m K c 2) $$ Hrec Hr2 HO
  iintro ⟨Hr2, Hrz2, HO⟩
  -- part 22
  simp only [k0_part22_eq_skeleton, k0_part22_skel, semSignalWord, semWaitWord, Prog.lift, Prog.bind_op, Prog.bind_ret, Prog.pure_eq_ret, wp_deviceId]
  iapply (wp_rload c 2 (sendVal m (src c 2) 2)) $$ Hr2
  iintro Hr2
  iapply (wp_oload m c (insert (src c 1) (insert (src c 0) (insert c ∅))) _) $$ Ho
  iintro %_ Ho
  iapply (wp_ostore m c (src c 2) (insert (src c 1) (insert (src c 0) (insert c ∅))) _ _ (off3_eq c 2) _ ((blkVal_src m c 2).symm)) $$ Ho
  iintro Ho
  iapply (wp_rwait m K c 3) $$ Hrec Hr3 HO
  iintro ⟨Hr3, Hrz3, HO⟩
  -- part 23
  simp only [k0_part23_eq_skeleton, k0_part23_skel, semSignalWord, semWaitWord, Prog.lift, Prog.bind_op, Prog.bind_ret, Prog.pure_eq_ret, wp_deviceId]
  iapply (wp_rload c 3 (sendVal m (src c 3) 3)) $$ Hr3
  iintro Hr3
  iapply (wp_oload m c (insert (src c 2) (insert (src c 1) (insert (src c 0) (insert c ∅)))) _) $$ Ho
  iintro %_ Ho
  iapply (wp_ostore m c (src c 3) (insert (src c 2) (insert (src c 1) (insert (src c 0) (insert c ∅)))) _ _ (off3_eq c 3) _ ((blkVal_src m c 3).symm)) $$ Ho
  iintro Ho
  -- part 24
  simp only [k0_part24_eq_skeleton, k0_part24_skel, semSignalWord, semWaitWord, Prog.lift, Prog.bind_op, Prog.bind_ret, Prog.pure_eq_ret, wp_deviceId]
  iapply (wp_rwait m K c 4) $$ Hrec Hr4 HO
  iintro ⟨Hr4, Hrz4, HO⟩
  iapply (wp_rload c 4 (sendVal m (src c 4) 4)) $$ Hr4
  iintro Hr4
  iapply (wp_oload m c (insert (src c 3) (insert (src c 2) (insert (src c 1) (insert (src c 0) (insert c ∅))))) _) $$ Ho
  iintro %_ Ho
  iapply (wp_ostore m c (src c 4) (insert (src c 3) (insert (src c 2) (insert (src c 1) (insert (src c 0) (insert c ∅))))) _ _ (off3_eq c 4) _ ((blkVal_src m c 4).symm)) $$ Ho
  iintro Ho
  -- part 25
  simp only [k0_part25_eq_skeleton, k0_part25_skel, semSignalWord, semWaitWord, Prog.lift, Prog.bind_op, Prog.bind_ret, Prog.pure_eq_ret, wp_deviceId]
  iapply (wp_rwait m K c 5) $$ Hrec Hr5 HO
  iintro ⟨Hr5, Hrz5, HO⟩
  iapply (wp_rload c 5 (sendVal m (src c 5) 5)) $$ Hr5
  iintro Hr5
  iapply (wp_oload m c (insert (src c 4) (insert (src c 3) (insert (src c 2) (insert (src c 1) (insert (src c 0) (insert c ∅)))))) _) $$ Ho
  iintro %_ Ho
  iapply (wp_ostore m c (src c 5) (insert (src c 4) (insert (src c 3) (insert (src c 2) (insert (src c 1) (insert (src c 0) (insert c ∅)))))) _ _ (off3_eq c 5) _ ((blkVal_src m c 5).symm)) $$ Ho
  iintro Ho
  -- part 26
  simp only [k0_part26_eq_skeleton, k0_part26_skel, semSignalWord, semWaitWord, Prog.lift, Prog.bind_op, Prog.bind_ret, Prog.pure_eq_ret, wp_deviceId]
  iapply (wp_rwait m K c 6) $$ Hrec Hr6 HO
  iintro ⟨Hr6, Hrz6, HO⟩
  iapply (wp_rload c 6 (sendVal m (src c 6) 6)) $$ Hr6
  iintro Hr6
  -- part 27
  simp only [k0_part27_eq_skeleton, k0_part27_skel, semSignalWord, semWaitWord, Prog.lift, Prog.bind_op, Prog.bind_ret, Prog.pure_eq_ret, wp_deviceId]
  iapply (wp_oload m c (insert (src c 5) (insert (src c 4) (insert (src c 3) (insert (src c 2) (insert (src c 1) (insert (src c 0) (insert c ∅))))))) _) $$ Ho
  iintro %_ Ho
  iapply (wp_ostore m c (src c 6) (insert (src c 5) (insert (src c 4) (insert (src c 3) (insert (src c 2) (insert (src c 1) (insert (src c 0) (insert c ∅))))))) _ _ (off3_eq c 6) _ ((blkVal_src m c 6).symm)) $$ Ho
  iintro Ho
  iapply (wp_swait m K c 0) $$ Hrec Hv0 Ha0 HO
  iintro ⟨Hv0, Hsz0, HO⟩
  iapply (wp_swait m K c 1) $$ Hrec Hv1 Ha1 HO
  iintro ⟨Hv1, Hsz1, HO⟩
  iapply (wp_swait m K c 2) $$ Hrec Hv2 Ha2 HO
  iintro ⟨Hv2, Hsz2, HO⟩
  simp only [Prog.lift, Prog.bind_op, Prog.bind_ret, Prog.pure_eq_ret]
  iapply (wp_swait m K c 3) $$ Hrec Hv3 Ha3 HO
  iintro ⟨Hv3, Hsz3, HO⟩
  iapply (wp_swait m K c 4) $$ Hrec Hv4 Ha4 HO
  iintro ⟨Hv4, Hsz4, HO⟩
  iapply (wp_swait m K c 5) $$ Hrec Hv5 Ha5 HO
  iintro ⟨Hv5, Hsz5, HO⟩
  iapply (wp_swait m K c 6) $$ Hrec Hv6 Ha6 HO
  iintro ⟨Hv6, Hsz6, HO⟩
  rw [wp_ret, rows_all]; imodintro
  iframe

end Cert.KernelIdealProof
-- ==== Proof.KernelIdealRegion.lean ====
/- # `Region`: the kernel's region as the launch sees it

What the body holds before and after its one point, whole buffers at the boundary and slabs inside, and the obligation the launch
asks of the body: from the one, and the output buffer at any contents, to the other and the output buffer at `outAt`. -/
module

public import proofs.«01_k».proof.Proof.KernelIdealBody
public import Idealize.ShloMosaic.Lib.Ring

@[expose] public section

noncomputable section

namespace Cert.KernelIdealProof

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Buffers in pieces -/

theorem slab_disjoint (j j' : Fin 7) (h : j ≠ j') : Disjoint (slabR j).set (slabR j').set :=
  Ring.lead_disjoint (s := S7x512x256) (0 : Fin 3) 1 (fun j : Fin 7 => ![j.val, 0, 0]) S1x512x256.size slab_inb
    (fun j => (Nat.one_mul _).symm) rfl j j' h
theorem slab_cover : Finset.univ.biUnion (fun j => (slabR j).set) = Finset.univ :=
  Ring.lead_cover (s := S7x512x256) (0 : Fin 3) 1 (fun j : Fin 7 => ![j.val, 0, 0]) S1x512x256.size slab_inb
    (fun j => (Nat.one_mul _).symm) (fun j a ha => by fin_cases a; exact absurd rfl ha; rfl; rfl) rfl
    (fun a ha => by fin_cases a; exact absurd rfl ha; rfl; rfl) rfl
theorem slot_disjoint (p p' : Fin 2) (h : p ≠ p') : Disjoint (slotR p).set (slotR p').set :=
  Ring.lead_disjoint (s := S2x4096x256) (0 : Fin 3) 1 (fun j : Fin 2 => ![j.val, 0, 0]) S1x4096x256.size slot_inb
    (fun j => (Nat.one_mul _).symm) rfl p p' h
theorem slot_cover : Finset.univ.biUnion (fun p => (slotR p).set) = Finset.univ :=
  Ring.lead_cover (s := S2x4096x256) (0 : Fin 3) 1 (fun j : Fin 2 => ![j.val, 0, 0]) S1x4096x256.size slot_inb
    (fun j => (Nat.one_mul _).symm) (fun j a ha => by fin_cases a; exact absurd rfl ha; rfl; rfl) rfl
    (fun a ha => by fin_cases a; exact absurd rfl ha; rfl; rfl) rfl

/-- The send buffer held whole is its seven slabs, and back; likewise the receive buffer and the two slots. -/
theorem send_split (c : Dev nD) (f : Buf (Elt F) ((c : Thread nD τ).loc cc0_scratch2)) :
    (((c : Thread nD τ).loc cc0_scratch2 ↦{fullShare} f) : sProp 𝕄) ⊢ bigSep Finset.univ (slabAny (F := F) sV c) := by
  rw [Ring.pointsTo_blocks (fun j => ((sV : Memref sig .tc .vmem S7x512x256 .bf16).view.slice (slabR j)).set) (fun j j' h => by simpa using slab_disjoint j j' h) (by simpa using slab_cover) f]
  exact bigSep_mono fun j _ => show _ ⊢ (_ : sProp 𝕄) from by unfold slabAny; iintro H; iexists f; iexact H
theorem send_join (c : Dev nD) (f₀ : Buf (Elt F) ((c : Thread nD τ).loc cc0_scratch2)) : bigSep Finset.univ (slabAny (F := F) sV c)
    ⊢ (iprop(∃ f : Buf (Elt F) ((c : Thread nD τ).loc cc0_scratch2), ((c : Thread nD τ).loc cc0_scratch2) ↦{fullShare} f) : sProp 𝕄) := by
  unfold slabAny
  exact Ring.pointsTo_blocks_join_exists (ℓ := (c : Thread nD τ).loc cc0_scratch2) (fun j => ((sV : Memref sig .tc .vmem S7x512x256 .bf16).view.slice (slabR j)).set) (fun j j' h => by simpa using slab_disjoint j j' h) (by simpa using slab_cover) f₀
theorem recv_split (c : Dev nD) (f : Buf (Elt F) ((c : Thread nD τ).loc cc0_scratch3)) :
    (((c : Thread nD τ).loc cc0_scratch3 ↦{fullShare} f) : sProp 𝕄) ⊢ bigSep Finset.univ (slabAny (F := F) rV c) := by
  rw [Ring.pointsTo_blocks (fun j => ((rV : Memref sig .tc .vmem S7x512x256 .bf16).view.slice (slabR j)).set) (fun j j' h => by simpa using slab_disjoint j j' h) (by simpa using slab_cover) f]
  exact bigSep_mono fun j _ => show _ ⊢ (_ : sProp 𝕄) from by unfold slabAny; iintro H; iexists f; iexact H
theorem recv_join (c : Dev nD) (f₀ : Buf (Elt F) ((c : Thread nD τ).loc cc0_scratch3)) : bigSep Finset.univ (slabAny (F := F) rV c)
    ⊢ (iprop(∃ f : Buf (Elt F) ((c : Thread nD τ).loc cc0_scratch3), ((c : Thread nD τ).loc cc0_scratch3) ↦{fullShare} f) : sProp 𝕄) := by
  unfold slabAny
  exact Ring.pointsTo_blocks_join_exists (ℓ := (c : Thread nD τ).loc cc0_scratch3) (fun j => ((rV : Memref sig .tc .vmem S7x512x256 .bf16).view.slice (slabR j)).set) (fun j j' h => by simpa using slab_disjoint j j' h) (by simpa using slab_cover) f₀

/-- A conjunction over two indices, one by one. -/
theorem two (Φ : Fin 2 → sProp 𝕄) : bigSep Finset.univ Φ = iprop(Φ 0 ∗ Φ 1) := bigSep_univ_eq_bigSepL [0, 1] (by decide) (by decide) Φ

theorem slots_split (c : Dev nD) (f : Buf (Elt F) ((c : Thread nD τ).loc cc0_scratch1)) :
    (((c : Thread nD τ).loc cc0_scratch1 ↦{fullShare} f) : sProp 𝕄) ⊢ iprop(slotAny (F := F) c 0 ∗ slotAny c 1) := by
  rw [Ring.pointsTo_blocks (fun p => ((wV : Memref sig .tc .vmem S2x4096x256 .f32).view.slice (slotR p)).set) (fun j j' h => by simpa using slot_disjoint j j' h) (by simpa using slot_cover) f, ← two]
  exact bigSep_mono fun j _ => show _ ⊢ (_ : sProp 𝕄) from by unfold slotAny; iintro H; iexists f; iexact H
theorem slots_join (c : Dev nD) (f₀ : Buf (Elt F) ((c : Thread nD τ).loc cc0_scratch1)) : iprop(slotAny (F := F) c 0 ∗ slotAny c 1)
    ⊢ (iprop(∃ f : Buf (Elt F) ((c : Thread nD τ).loc cc0_scratch1), ((c : Thread nD τ).loc cc0_scratch1) ↦{fullShare} f) : sProp 𝕄) := by
  rw [← two]; unfold slotAny
  exact Ring.pointsTo_blocks_join_exists (ℓ := (c : Thread nD τ).loc cc0_scratch1) (fun p => ((wV : Memref sig .tc .vmem S2x4096x256 .f32).view.slice (slotR p)).set) (fun j j' h => by simpa using slot_disjoint j j' h) (by simpa using slot_cover) f₀

/-! ## Before and after the point -/

/-- The tokens of the duties device `c` pays: three per step. -/
def payToks (c : Dev nD) : sProp 𝕄 :=
  bigSep Finset.univ fun j : Fin 7 => iprop(dutyTok ER (barCell (peer c j)) 0 (Fin.rev j) ∗ dutyTok ER (sendCell c j) 0 0 ∗ dutyTok ER (recvCell (peer c j) j) 0 0)
/-- The local copies' semaphores at zero. -/
def copies0 (c : Dev nD) : sProp 𝕄 :=
  iprop(semVal ((c : Thread nD τ), .dma (slotS 0)) 0 ∗ semVal ((c : Thread nD τ), .dma (slotS 1)) 0 ∗ semVal ((c : Thread nD τ), .dma (copyS 2)) 0)
/-- What device `c` alone holds of the protocol: its positions, the tokens it pays with, the semaphores outside it. -/
def linear (c : Dev nD) : sProp 𝕄 :=
  iprop((atPos ER (barCell c) 0 ∅ 0 ∗ (bigSep Finset.univ fun j : Fin 7 => atPos ER (sendCell c j) 0 ∅ 0) ∗ (bigSep Finset.univ fun j : Fin 7 => atPos ER (recvCell c j) 0 ∅ 0))
    ∗ payToks c ∗ copies0 c)
/-- The credit device `c` waits with at its barrier and its receive cells. -/
def creds (c : Dev nD) : sProp 𝕄 :=
  iprop(cred (tallyAt (barCell c) () 7) ∗ bigSep Finset.univ fun j : Fin 7 => cred (tallyAt (recvCell c j) () N))
/-- The two arguments, as launched. -/
def args (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1)))
/-- What the launch gives device `c`'s body. -/
def start (c : Dev nD) : sProp 𝕄 := iprop((∃ K, records m K ∗ linear c) ∗ creds c ∗ args m c)
/-- The four scratch buffers whole, whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
/-- Every semaphore the body uses at zero. -/
def sems0 (c : Dev nD) : sProp 𝕄 :=
  iprop(copies0 c ∗ semVal (barCell c) 0 ∗ (bigSep Finset.univ fun j : Fin 7 => semVal (sendCell c j) 0) ∗ (bigSep Finset.univ fun j : Fin 7 => semVal (recvCell c j) 0))

def Φ₀ (c : Dev nD) : sProp 𝕄 := iprop(start m c ∗ scratch c)
def Φ₁ (c : Dev nD) : sProp 𝕄 := iprop(scratch c ∗ args m c ∗ sems0 c)

/-- The starting state of memory `m`: every semaphore at zero. -/
def s₀ : MemSt nD τ sig (Elt F) := ⟨m, fun _ => 0, ρ⟩

/-- The region's proof data: the arrays as launched, the output buffer at `outAt` after the point, `Φ₀` before it and `Φ₁` after it;
    device `c` owes all its signals and copies before it and nothing after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The slabs a device's signals hand over, in the order of the signals, with the tokens the signals and the copies pay with. -/
theorem toks_deal (c : Dev nD) : iprop(bigSep Finset.univ (slabAny (F := F) rV c) ∗ payToks c)
    ⊢ iprop(bigSep Finset.univ (sigRes (F := F) c) ∗ bigSep Finset.univ (sendRes (F := F) c)) := by
  unfold payToks sigRes sendRes
  rw [bigSep_univ_equiv Fin.revPerm (slabAny (F := F) rV c)]
  simp only [bigSep_sep']
  iintro ⟨H, H1, H2, H3⟩
  isplitl [H H1]
  · isplitl [H]; · iexact H
    iexact H1
  · isplitl [H2] <;> iassumption

/-- What the body starts from, out of whole buffers. -/
theorem bodyIn_intro (c : Dev nD) :
    iprop(linear c ∗ creds c ∗ args m c ∗ scratch c ∗ (∃ f : Buf (Elt F) (oM.view.loc (c : Thread nD τ)), oM.view.loc (c : Thread nD τ) ↦{fullShare} f)) ⊢ bodyIn m c := by
  unfold linear creds args scratch bodyIn copies0 wHeld
  iintro ⟨⟨⟨Hab, Has, Har⟩, Htok, Hz0, Hz1, Hz2⟩, ⟨Hcb, Hcr⟩, ⟨Hx, Hw⟩, ⟨Hs0, ⟨%f1, Hs1⟩, ⟨%f2, Hs2⟩, ⟨%f3, Hs3⟩⟩, ⟨%fo, Ho⟩⟩
  ihave Hs1 := (slots_split c f1) $$ Hs1
  icases Hs1 with ⟨Hp0, Hp1⟩
  ihave Hs2 := (send_split c f2) $$ Hs2
  ihave Hs3 := (recv_split c f3) $$ Hs3
  ihave Htok := (toks_deal (F := F) c) $$ [Hs3 Htok]
  · isplitl [Hs3] <;> iassumption
  icases Htok with ⟨Hsig, Hsend⟩
  ihave Hw := (pointsTo_share (PosShare.mem_left_op_right fullShare)).1 $$ Hw
  icases Hw with ⟨HwL, HwR⟩
  isplitl [Hsig]; · iexact Hsig
  isplitl [Hcb]; · iexact Hcb
  isplitl [Hab]; · iexact Hab
  isplitl [Hs2]; · iexact Hs2
  isplitl [Hsend]; · iexact Hsend
  isplitl [Hcr Har]
  · ihave H := (Entails.of_eq (bigSep_sep' Finset.univ (fun j : Fin 7 => (cred (tallyAt (recvCell c j) () N) : sProp 𝕄)) (fun j => atPos ER (recvCell c j) 0 ∅ 0)).symm) $$ [Hcr Har]
    · isplitl [Hcr] <;> iassumption
    unfold recvRes; iexact H
  isplitl [Has]; · iexact Has
  isplitl [Hp0]; · iexact Hp0
  isplitl [Hp1]; · iexact Hp1
  isplitl [HwL]; · iexact HwL
  isplitl [HwR]; · iexact HwR
  isplitl [Hs0]; · iexact Hs0
  isplitl [Hx]; · iexact Hx
  isplitl [Hz0]; · iexact Hz0
  isplitl [Hz1]; · iexact Hz1
  isplitl [Hz2]; · iexact Hz2
  unfold oAt
  iexists fo
  isplitr; · ipureintro; exact fun i hi => absurd hi (Finset.notMem_empty _)
  iexact Ho

/-- What the body leaves, whole again. -/
theorem bodyOut_elim (c : Dev nD) : bodyOut m c ⊢ iprop(owesE c [] [] ∗ Φ₁ m c ∗ (∃ f : Buf (Elt F) (oM.view.loc (c : Thread nD τ)), ⌜f = outAt m c⌝ ∗ oM.view.loc (c : Thread nD τ) ↦{fullShare} f)) := by
  unfold bodyOut Φ₁ scratch args sems0 copies0 wHeld
  iintro ⟨HO, Hs2, Hs3, Hp0, Hp1, HwL, HwR, Hs0, Hx, Hz0, Hz1, Hz2, Hzb, Hzs, Hzr, Ho⟩
  isplitl [HO]; · iexact HO
  isplitr [Ho]
  · isplitl [Hs0 Hp0 Hp1 Hs2 Hs3]
    · isplitl [Hs0]; · iexists (xval m c); iexact Hs0
      isplitl [Hp0 Hp1]
      · iapply (slots_join (F := F) c fun _ => Scalar.ofBits .f32 0#32); isplitl [Hp0] <;> iassumption
      isplitl [Hs2]
      · iapply (send_join (F := F) c fun _ => Scalar.ofBits .bf16 0#16); iexact Hs2
      · iapply (recv_join (F := F) c fun _ => Scalar.ofBits .bf16 0#16); iexact Hs3
    isplitl [Hx HwL HwR]
    · isplitl [Hx]; · iexact Hx
      iapply (pointsTo_share (PosShare.mem_left_op_right fullShare)).2
      isplitl [HwL]; · iexact HwL
      iexact HwR
    isplitl [Hz0 Hz1 Hz2]
    · isplitl [Hz0]; · iexact Hz0
      isplitl [Hz1]; · iexact Hz1
      iexact Hz2
    isplitl [Hzb]; · iexact Hzb
    isplitl [Hzs]; · iexact Hzs
    iexact Hzr
  · unfold oAt
    icases Ho with ⟨%f, %hf, Ho⟩
    iexists f
    isplitr; · ipureintro; exact filled_univ m hf
    iexact Ho

theorem owns_whole_eq (c : Dev nD) (b : Ref sig .tc) (X : b.ty.Contents (Elt F)) :
    (owns c (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The point's pre and post, its one window's buffer named. -/
def pointPre (c : Dev nD) : sProp 𝕄 :=
  iprop(Φ₀ m c ∗ (dats m ρ 0 c).owesAt () t0_0.castSucc
    ∗ (∃ d, ∃ f : Buf (Elt F) ((c : Thread nD τ).loc cc0_stg0_0), ⌜f = (dats m ρ 0 c).before (0 : Fin 1) t0_0 d⌝ ∗ (((c : Thread nD τ).loc cc0_stg0_0) ↦{fullShare} f)))
def pointPost (c : Dev nD) : sProp 𝕄 :=
  iprop(Φ₁ m c ∗ (dats m ρ 0 c).owesAt () t0_0.succ
    ∗ (∃ f : Buf (Elt F) ((c : Thread nD τ).loc cc0_stg0_0), ⌜f = outAt m c⌝ ∗ (((c : Thread nD τ).loc cc0_stg0_0) ↦{fullShare} f)))

theorem pointPost_intro (c : Dev nD) : bodyOut m c ⊢ pointPost m ρ c := by
  refine (bodyOut_elim m c).trans ?_
  unfold pointPost Dat.owesAt Pipeline.owesWithin owesE
  iintro ⟨⟨%W', HO⟩, HΦ, Ho⟩
  isplitl [HΦ]; · iexact HΦ
  isplitl [HO]
  · iexists W'
    isplitr; · ipureintro; exact fun _ _ => Or.inl trivial
    iexact HO
  iexact Ho

theorem point_run (c : Dev nD) (h0 : xH.IsWhole) (h1 : wH.IsWhole) (h2 : oM.IsWhole) (h3 : xV.IsWhole) (h4 : wV.IsWhole) (h5 : sV.IsWhole) (h6 : rV.IsWhole) :
    pointPre m ρ c ⊢ wp frame (wpE (defs₀ (F := F)) 𝒱₀ (c : Thread nD τ) none) Set.univ
      (cc0_body (F := F) xH h0 wH h1 oM h2 xV h3 wV h4 sV h5 rV h6 cc0_scratch4 cc0_scratch5 cc0_scratch6) (fun _ => pointPost m ρ c) := by
  refine BIBase.Entails.trans ?_ (wp_mono _ _ _ fun _ => pointPost_intro m ρ c)
  unfold pointPre Φ₀ start Dat.owesAt Pipeline.owesWithin
  iintro ⟨⟨⟨⟨%K, #Hrec, Hlin⟩, Hcr, Hargs⟩, Hscr⟩, ⟨%W, %hW, HO⟩, ⟨%d, %f, %hf, Ho⟩⟩
  iapply (body_run m K c h0 h1 h2 h3 h4 h5 h6) $$ Hrec [HO]
  · unfold owesE; iexists W; iexact HO
  iapply (bodyIn_intro m c)
  isplitl [Hlin]; · iexact Hlin
  isplitl [Hcr]; · iexact Hcr
  isplitl [Hargs]; · iexact Hargs
  isplitl [Hscr]; · iexact Hscr
  iexists f; iexact Ho

set_option maxRecDepth 4000 in
/-- What the launch asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact point_run m ρ c _ _ _ _ _ _ _

end Cert.KernelIdealProof
-- ==== Proof.KernelIdealLaunch.lean ====
/- # `Launch`: the kernel, launched on every device

The launch hands out the rounds of the barrier, send and receive cells and the tokens of their duties, each token to the device that
pays it; it makes the cells' invariants and deals every device the credit it waits with. `run_main` is the run: it terminates with each
device's result array at `outAt`, the arguments unchanged and every semaphore at zero. -/
module

public import proofs.«01_k».proof.Proof.KernelIdealRegion
public import Idealize.ShloMosaic.Lib.Pipeline.Launch
public import Idealize.ShloMosaic.Lib.Pipeline.Kit
public import Idealize.ShloMosaic.Lib.Pipeline.CollectiveSegs
public import Idealize.ShloMosaic.Lib.Pipeline.ValueKit.Geometry

@[expose] public section

noncomputable section

namespace Cert.KernelIdealProof

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own seventeen semaphores: the copies', the sends', the receives'. -/
def osem (i : Fin 17) : SemLoc sig :=
  if h : i.val < 3 then .dma (copyS ⟨i.val, h⟩)
  else if h' : i.val < 10 then .dma (sendS ⟨i.val - 3, by omega⟩) else .dma (recvS ⟨i.val - 10, by omega⟩)

theorem ownSemFacts : Pipeline.OwnSemFacts cfg0.spec osem := by decide

/-- A conjunction over the fifteen cells of a device: its barrier, its sends, its receives. -/
theorem fifteen (Φ : Fin 15 → sProp 𝕄) : bigSep Finset.univ Φ
    = iprop(Φ 0 ∗ (bigSep Finset.univ fun j : Fin 7 => Φ ⟨j.val + 1, by omega⟩) ∗ (bigSep Finset.univ fun j : Fin 7 => Φ ⟨j.val + 8, by omega⟩)) := by
  rw [bigSep_univ_eq_bigSepL [0, 1, 2, 3, 4, 5, 6, 7, 8, 9, 10, 11, 12, 13, 14] (by decide) (by decide) Φ, seven, seven]
  refine BI.Entails.antisymm (show _ ⊢ (_ : sProp 𝕄) from ?_) (show _ ⊢ (_ : sProp 𝕄) from ?_)
  · show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) ⊢ iprop(Φ 0 ∗ (Φ 1 ∗ Φ 2 ∗ Φ 3 ∗ Φ 4 ∗ Φ 5 ∗ Φ 6 ∗ Φ 7) ∗ (Φ 8 ∗ Φ 9 ∗ Φ 10 ∗ Φ 11 ∗ Φ 12 ∗ Φ 13 ∗ Φ 14))
    iintro ⟨H0, H1, H2, H3, H4, H5, H6, H7, H8, H9, H10, H11, H12, H13, H14⟩
    isplitl [H0]; · iexact H0
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [H9]; · iexact H9
    isplitl [H10]; · iexact H10
    isplitl [H11]; · iexact H11
    isplitl [H12]; · iexact H12
    isplitl [H13]; · iexact H13
    iexact H14
  · show iprop(Φ 0 ∗ (Φ 1 ∗ Φ 2 ∗ Φ 3 ∗ Φ 4 ∗ Φ 5 ∗ Φ 6 ∗ Φ 7) ∗ (Φ 8 ∗ Φ 9 ∗ Φ 10 ∗ Φ 11 ∗ Φ 12 ∗ Φ 13 ∗ Φ 14)) ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14)
    iintro ⟨H0, ⟨H1, H2, H3, H4, H5, H6, H7⟩, ⟨H8, H9, H10, H11, H12, H13, H14⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The kernel's own semaphores at zero, by kind. -/
theorem ownSems0_eq (c : Dev nD) : (Pipeline.ownSems0 (Ix := Unit) (Name := ℕ) (U := UU) (Lvl := ℕ) (Val := Elt F) (τ := τ) osem c : sProp 𝕄)
    = iprop(copies0 c ∗ (bigSep Finset.univ fun j : Fin 7 => semVal (sendCell c j) 0) ∗ (bigSep Finset.univ fun j : Fin 7 => semVal (recvCell c j) 0)) := by
  rw [Pipeline.ownSems0_eq_of_list c osem [0, 1, 2, 3, 4, 5, 6, 7, 8, 9, 10, 11, 12, 13, 14, 15, 16] (by decide) (by decide), seven, seven]
  unfold copies0
  refine BI.Entails.antisymm (show _ ⊢ (_ : sProp 𝕄) from ?_) (show _ ⊢ (_ : sProp 𝕄) from ?_)
  · show iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0) ⊢ _
    iintro ⟨H0, H1, H2, H3, H4, H5, H6, H7, H8, H9, H10, H11, H12, H13, H14, H15, H16⟩
    isplitl [H0 H1 H2]
    · isplitl [H0]; · iexact H0
      isplitl [H1]; · iexact H1
      iexact H2
    isplitl [H3 H4 H5 H6 H7 H8 H9]
    · isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [H11]; · iexact H11
    isplitl [H12]; · iexact H12
    isplitl [H13]; · iexact H13
    isplitl [H14]; · iexact H14
    isplitl [H15]; · iexact H15
    iexact H16
  · show _ ⊢ iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0)
    iintro ⟨⟨H0, H1, H2⟩, ⟨H3, H4, H5, H6, H7, H8, H9⟩, ⟨H10, H11, H12, H13, H14, H15, H16⟩⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- The barrier is the one semaphore the launch leaves unscoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A conjunction over a device's cells of something said of the cell. -/
theorem cells_eq (c : Dev nD) (Ψ : GSem nD τ sig → sProp 𝕄) : (bigSep Finset.univ fun k : Fin 15 => Ψ (kcell (c, k)))
    = iprop(Ψ (barCell c) ∗ (bigSep Finset.univ fun j : Fin 7 => Ψ (sendCell c j)) ∗ (bigSep Finset.univ fun j : Fin 7 => Ψ (recvCell c j))) := by
  rw [fifteen]
  have hs : (fun j : Fin 7 => Ψ (kcell (c, ⟨j.val + 1, by omega⟩))) = fun j => Ψ (sendCell c j) := funext fun j => congrArg Ψ (kcell_send c j)
  have hr : (fun j : Fin 7 => Ψ (kcell (c, ⟨j.val + 8, by omega⟩))) = fun j => Ψ (recvCell c j) := funext fun j => congrArg Ψ (kcell_recv c j)
  rw [hs, hr]; rfl

/-! ## The ghost state minted -/

theorem csem_injective : ∀ k k' : Fin 15, csem k = csem k' → k = k' := by decide
theorem kcell_injective : Function.Injective (kcell : CI → GSem nD τ sig) := fun a b h =>
  Prod.ext (congrArg (fun g : GSem nD τ sig => g.1.1) h) (csem_injective _ _ (congrArg Prod.snd h))
def ringCells : Finset (GSem nD τ sig) := Finset.univ.map ⟨kcell, kcell_injective⟩

/-- The three duties device `p.1.1` pays at step `p.1.2`, and the step a duty belongs to. -/
def tokOf (p : (Dev nD × Fin 7) × Fin 3) : GSem nD τ sig × ℕ × Fin 7 :=
  match p.2 with
  | 0 => (barCell (peer p.1.1 p.1.2), 0, Fin.rev p.1.2)
  | 1 => (sendCell p.1.1 p.1.2, 0, 0)
  | 2 => (recvCell (peer p.1.1 p.1.2) p.1.2, 0, 0)
def stepOf (x : GSem nD τ sig × ℕ × Fin 7) : (Dev nD × Fin 7) × Fin 3 :=
  match role x.1.2 with
  | .bar => ((peer x.1.1.1 x.2.2, Fin.rev x.2.2), 0)
  | .snd j => ((x.1.1.1, j), 1)
  | .rcv j => ((src x.1.1.1 j, j), 2)
  | .other => ((x.1.1.1, 0), 0)
theorem stepOf_tokOf (p : (Dev nD × Fin 7) × Fin 3) : stepOf (tokOf p) = p := by
  obtain ⟨⟨c, j⟩, k⟩ := p
  fin_cases k
  · show stepOf (barCell (peer c j), 0, Fin.rev j) = _
    dsimp only [stepOf]; rw [role_bar]; dsimp only; rw [peer_rev, Fin.rev_rev]; rfl
  · show stepOf (sendCell c j, 0, 0) = _
    dsimp only [stepOf]; rw [role_send]; rfl
  · show stepOf (recvCell (peer c j) j, 0, 0) = _
    dsimp only [stepOf]; rw [role_recv]; dsimp only; rw [src_peer]; rfl
theorem tokOf_injective : Function.Injective tokOf := Function.LeftInverse.injective stepOf_tokOf
def ringToks : Finset (GSem nD τ sig × ℕ × Fin 7) := Finset.univ.map ⟨tokOf, tokOf_injective⟩

/-- What the launch mints: the staging cells' half and the rounds' half. -/
def u₀ : UU :=
  (initOf (Pipeline.cells cfgs cellOf_inj) (Pipeline.launchToks cfgs cellOf_inj), (initOf ringCells ringToks, 1))

theorem u₀_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- Device `c`'s part: the rounds of its cells, its positions, that its cells are at round 0, the tokens it pays with. -/
def G (c : Dev nD) : sProp 𝕄 :=
  iprop((bigSep Finset.univ fun k : Fin 15 => roundState ER (ringRd m) (kcell (c, k)) 0)
    ∗ ((bigSep Finset.univ fun k : Fin 15 => atPos ER (kcell (c, k)) 0 ∅ 0) ∗ bigSep Finset.univ fun k : Fin 15 => reached ER (kcell (c, k)) 0) ∗ payToks c)

theorem three (Φ : Fin 3 → sProp 𝕄) : bigSep Finset.univ Φ = iprop(Φ 0 ∗ Φ 1 ∗ Φ 2) := bigSep_univ_eq_bigSepL [0, 1, 2] (by decide) (by decide) Φ

theorem cells_deal (Ψ : GSem nD τ sig → sProp 𝕄) : bigSep ringCells Ψ = bigSep Finset.univ fun c : Dev nD => bigSep Finset.univ fun k : Fin 15 => Ψ (kcell (c, k)) := by
  unfold ringCells; rw [bigSep_map, bigSep_univ_prod]; rfl
theorem toks_mint : bigSep ringToks (fun x => (dutyTok ER x.1 x.2.1 x.2.2 : sProp 𝕄)) = bigSep Finset.univ fun c : Dev nD => payToks c := by
  unfold ringToks; rw [bigSep_map, bigSep_univ_prod, bigSep_univ_prod]
  exact bigSep_congr fun c _ => by unfold payToks; exact bigSep_congr fun j _ => by rw [three]; rfl

theorem fund : BI.own (ER (initOf ringCells ringToks)) ⊢ (|==> bigSep Finset.univ (G m) : sProp 𝕄) := by
  iintro HX
  imod (Rounds.fund ER (ringRd m) ringCells ringToks) $$ HX with ⟨Hst, Hr, Hat, Htok⟩
  imodintro
  ihave Hst := (Entails.of_eq (cells_deal fun g => roundState ER (ringRd m) g 0)) $$ Hst
  ihave Hat := (Entails.of_eq (cells_deal fun g => atPos ER g 0 ∅ 0)) $$ Hat
  ihave Hr := (Entails.of_eq (cells_deal fun g => reached ER g 0)) $$ Hr
  ihave Htok := (Entails.of_eq toks_mint) $$ Htok
  unfold G; simp only [bigSep_sep']
  isplitl [Hst]; · iexact Hst
  isplitl [Hat Hr]
  · isplitl [Hat] <;> iassumption
  iexact Htok

/-! ## The invariants made -/

/-- A device's part once its cells' invariants exist. -/
def mid (c : Dev nD) : sProp 𝕄 :=
  iprop((bigSep Finset.univ fun k => iprop(∃ κ : ℕ, cellInv ER (ringRd m) κ (kcell (c, k))))
    ∗ (bigSep Finset.univ fun k : Fin 15 => reached ER (kcell (c, k)) 0) ∗ linear c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> mid m c := by
  rw [ownSems0_eq, unscopedSems0_eq]
  unfold G mid linear
  iintro ⟨⟨Hcp, Hsv, Hrv⟩, Hb, Hst, ⟨Hat, Hr⟩, Htok⟩
  ihave Hv := (Entails.of_eq (cells_eq c fun g => (semVal g 0 : sProp 𝕄)).symm) $$ [Hsv Hrv Hb]
  · isplitl [Hb]; · iexact Hb
    isplitl [Hsv] <;> iassumption
  ihave Hat := (Entails.of_eq (cells_eq c fun g => (atPos ER g 0 ∅ 0 : sProp 𝕄))) $$ Hat
  imod (show iprop((bigSep Finset.univ fun k : Fin 15 => semVal (kcell (c, k)) 0) ∗ bigSep Finset.univ fun k : Fin 15 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hcp

/-- That every cell of every device has its invariant and is at round 0. -/
def known (K : CI → ℕ) : sProp 𝕄 :=
  iprop((bigSep Finset.univ fun ck : CI => cellInv ER (ringRd m) (K ck) (kcell ck)) ∗ bigSep Finset.univ fun ck : CI => reached ER (kcell ck) 0)
instance known_persistent (K : CI → ℕ) : BI.Persistent (known m K) := by unfold known; infer_instance

def G' (c : Dev nD) : sProp 𝕄 := iprop(∃ K, known m K ∗ linear c)

theorem regroup : (bigSep Finset.univ (mid m) : sProp 𝕄) ⊢ bigSep Finset.univ (G' m) := by
  unfold mid
  rw [bigSep_sep', bigSep_sep', ← bigSep_univ_prod (fun ck : CI => iprop(∃ κ : ℕ, cellInv ER (ringRd m) κ (kcell ck))),
    ← bigSep_univ_prod (fun ck : CI => (reached ER (kcell ck) 0 : sProp 𝕄))]
  iintro ⟨HI, #HR, Hlin⟩
  ihave HK := (BI.bigSep_exists_pi Finset.univ (fun (ck : CI) (κ : ℕ) => (cellInv ER (ringRd m) κ (kcell ck) : sProp 𝕄))) $$ HI
  icases HK with ⟨%K, #HI⟩
  iapply (show iprop(known m K ∗ bigSep Finset.univ (linear (F := F))) ⊢ bigSep Finset.univ (G' m) from
    (sep_mono_left (BI.bigSep_of_persistent Finset.univ (known m K))).trans (by
      rw [← bigSep_sep']
      exact bigSep_mono fun c _ => show iprop(known m K ∗ linear c) ⊢ G' m c from by
        unfold G'; iintro H; iexists K; iexact H))
  isplitr
  · unfold known; isplitl; · iexact HI
    iexact HR
  · iexact Hlin

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- The devices' signals at step `j` leave every barrier one unit; their copies of slab `j` leave every receive cell a slab's. -/
theorem cred_bar (j : Fin 7) (c : Dev nD) : (Pipeline.launchCred (fun d => tallyAt (barCell (peer d j)) () 1) c : sProp 𝕄) ⊢ cred (tallyAt (barCell c) () 1) :=
  Pipeline.launchCred_tallyAt (.reg barS) (fun d => peer d j) (fun d => src d j) (fun d => peer_src d j) (fun d => src_peer d j) () 1 c
theorem cred_recv (j : Fin 7) (c : Dev nD) : (Pipeline.launchCred (fun d => tallyAt (recvCell (peer d j) j) () N) c : sProp 𝕄) ⊢ cred (tallyAt (recvCell c j) () N) :=
  Pipeline.launchCred_tallyAt (.dma (recvS j)) (fun d => peer d j) (fun d => src d j) (fun d => peer_src d j) (fun d => src_peer d j) () N c

theorem cred_more (g : GSem nD τ sig) (a : ℕ) : iprop(cred (tallyAt g () a) ∗ cred (tallyAt g () 1)) ⊢ (cred (tallyAt g () (a + 1)) : sProp 𝕄) := by
  rw [← tallyAt_add]; exact (cred_add _ _).2

/-- The credit of a list of signals, and of a list of copies. -/
theorem cred_owed_recv (c : Dev nD) (lr : List (Fin 7)) :
    (Pipeline.launchCred (fun d => owed d [] lr) c : sProp 𝕄) ⊢ (lr.foldr (fun j P => iprop(cred (tallyAt (recvCell c j) () N) ∗ P)) iprop(emp) : sProp 𝕄) := by
  induction lr with
  | nil => exact Entails.of_eq (Pipeline.launchCred_zero c)
  | cons j lr ih =>
    rw [show (fun d => owed d [] (j :: lr)) = (fun d => owed d [] lr + tallyAt (recvCell (peer d j) j) () N) from rfl, Pipeline.launchCred_add]
    show _ ⊢ iprop(cred (tallyAt (recvCell c j) () N) ∗ _)
    iintro ⟨H, Hj⟩
    isplitl [Hj]
    · iapply (cred_recv (F := F) j c); iexact Hj
    · iapply ih; iexact H
theorem cred_owed (c : Dev nD) (lb lr : List (Fin 7)) :
    (Pipeline.launchCred (fun d => owed d lb lr) c : sProp 𝕄)
      ⊢ iprop((lb.foldr (fun j P => iprop(cred (tallyAt (barCell c) () 1) ∗ P)) iprop(emp) : sProp 𝕄) ∗ Pipeline.launchCred (fun d => owed d [] lr) c) := by
  induction lb with
  | nil => show _ ⊢ iprop(emp ∗ _); iintro H; isplitr; · iempintro
           iexact H
  | cons j lb ih =>
    rw [show (fun d => owed d (j :: lb) lr) = (fun d => owed d lb lr + tallyAt (barCell (peer d j)) () 1) from rfl, Pipeline.launchCred_add]
    show _ ⊢ iprop((cred (tallyAt (barCell c) () 1) ∗ _) ∗ _)
    iintro ⟨H, Hj⟩
    ihave H := ih $$ H
    icases H with ⟨H, Hr⟩
    isplitr [Hr]
    · isplitl [Hj]
      · iapply (cred_bar (F := F) j c); iexact Hj
      · iexact H
    · iexact Hr

theorem creds_intro (c : Dev nD) : (Pipeline.launchCred O₀ c : sProp 𝕄) ⊢ creds c := by
  refine (cred_owed c all7 all7).trans ?_
  refine (sep_mono_right (cred_owed_recv c all7)).trans ?_
  unfold creds
  rw [seven]
  show iprop((_ ∗ _ ∗ _ ∗ _ ∗ _ ∗ _ ∗ _ ∗ emp) ∗ (_ ∗ _ ∗ _ ∗ _ ∗ _ ∗ _ ∗ _ ∗ emp)) ⊢ _
  iintro ⟨⟨B0, B1, B2, B3, B4, B5, B6, -⟩, ⟨R0, R1, R2, R3, R4, R5, R6, -⟩⟩
  isplitl [B0 B1 B2 B3 B4 B5 B6]
  · iapply (cred_more (F := F) (barCell c) 6); isplitr [B6]
    · iapply (cred_more (F := F) (barCell c) 5); isplitr [B5]
      · iapply (cred_more (F := F) (barCell c) 4); isplitr [B4]
        · iapply (cred_more (F := F) (barCell c) 3); isplitr [B3]
          · iapply (cred_more (F := F) (barCell c) 2); isplitr [B2]
            · iapply (cred_more (F := F) (barCell c) 1); isplitl [B0] <;> iassumption
            · iexact B2
          · iexact B3
        · iexact B4
      · iexact B5
    · iexact B6
  isplitl [R0]; · iexact R0
  isplitl [R1]; · iexact R1
  isplitl [R2]; · iexact R2
  isplitl [R3]; · iexact R3
  isplitl [R4]; · iexact R4
  isplitl [R5]; · iexact R5
  iexact R6

/-! ## Entry and exit -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq]
  unfold start G'
  iintro ⟨Hargs, Hlev, Hcr, -, ⟨%K, Hk, Hlin⟩⟩
  ihave Hcr := (creds_intro (F := F) c) $$ Hcr
  imodintro
  isplitl
  · isplitl [Hk Hlev Hlin]
    · iexists K
      isplitl [Hk Hlev]
      · unfold known records
        icases Hk with ⟨H1, H2⟩
        isplitl [H1]; · iexact H1
        isplitl [H2] <;> iassumption
      iexact Hlin
    isplitl [Hcr]; · iexact Hcr
    unfold args; iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀ scratch
  iintro ⟨Hs, -, Hr⟩
  isplitl [Hs]; · iexact Hs
  iexact Hr

/-- What device `c` hands back at the end besides its own semaphores and its scratch. -/
def fin (c : Dev nD) : sProp 𝕄 := iprop(unscopedSems0 c ∗ args m c)

theorem phi1_exit (c : Dev nD) :
    (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m c from rfl, show cfg0.spec = spec0 from rfl, scopedRest0_eq, ownSems0_eq]
  unfold fin Φ₁ scratch sems0
  rw [unscopedSems0_eq]
  iintro ⟨Hr, Ha, Hc, Hb, Hs, Hv⟩
  isplitl [Hb Ha]
  · isplitl [Hb] <;> iassumption
  isplitl [Hc Hs Hv]
  · isplitl [Hc]; · iexact Hc
    isplitl [Hs] <;> iassumption
  iexact Hr

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w; fin_cases s; revert c; decide) all7 all7
    · exact mayWait_low c _ (by fin_cases w; fin_cases s; revert c; decide) [] []

/-- What the end says of device `c`'s arguments and barrier. -/
def Fin0 (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ sm : SemLoc sig, sm.isScoped .tc = false → s.sem ((c.tc : Thread nD τ), sm) = 0

theorem read_one (s' : Phys nD τ sig (Elt F)) (ℓ : Loc nD τ sig) (f : Buf (Elt F) ℓ) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  refine h.trans ?_
  iintro ⟨%h, H⟩
  isplitr; · ipureintro; exact h () (Finset.mem_singleton_self _)
  iexact H

theorem fin_read (c : Dev nD) (s' : Phys nD τ sig (Elt F)) : iprop(fin m c ∗ iprop(emp) ∗ SI s') ⊢ |={Set.univ}=> iprop(⌜Fin0 m c s'.mem⌝ ∗ SI s' : sProp 𝕄) := by
  unfold fin args
  iintro ⟨⟨Hu, Hx, Hw⟩, -, HSI⟩
  ihave H := (read_one (F := F) s' _ _) $$ [Hx HSI]
  · isplitl [Hx] <;> iassumption
  icases H with ⟨%hx, HSI⟩
  ihave H := (read_one (F := F) s' _ _) $$ [Hw HSI]
  · isplitl [Hw] <;> iassumption
  icases H with ⟨%hw, HSI⟩
  imod (Pipeline.unscopedSems0_read (X := unscopedSems0 c) (c := c) fupd_intro s') $$ [Hu HSI] with ⟨%hs, HSI⟩
  · isplitl [Hu] <;> iassumption
  imodintro
  isplitr; · ipureintro; exact ⟨⟨hx, hw⟩, hs⟩
  iexact HSI

/-! ## The run -/

set_option maxRecDepth 8000 in
/-- The run in the library's terms: each device's result array as the region's proof data leaves it. -/
theorem run_dats : θ_run defs (onTc (τ := τ) (main (F := F))) (s₀ m ρ)
    (fun r => (∀ c : Dev nD, (∀ w : Fin cfg0.W, r.2.mem ((cfg0.win w).arr.view.loc (c : Thread nD τ)) = (dats m ρ 0 c).arrAt w cfg0.N) ∧ Fin0 m c r.2)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (u₀_split _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m ρ) (hout := phi1_exit m ρ)
    (QY := Fin0 m) (hY := fin_read m)
    (hQ := fun _ h hs => ⟨fun c => ⟨fun w => (h c).1 w, (h c).2.2⟩, sem_eq_zero hs fun c => (h c).2.2.2⟩)

/-- The result array ends at what the body left in the output buffer. -/
theorem result_eq (c : Dev nD) : (dats m ρ 0 c).arrAt (0 : Fin 1) cfg0.N = outAt m c := by
  refine Pipeline.Dat.arrAt_eq_of_after_last (dats m ρ 0 c) (0 : Fin 1) t0_0 (by decide) (outAt m c) (fun j => ?_) (arr_whole0 0)
  rfl

/-- At any float values, from any memory with every semaphore at zero: the kernel terminates on the eight devices, with each device's
    result array at `outAt`, its arguments as they were, and every semaphore at zero. -/
theorem run_main : θ_run defs (onTc (τ := τ) (main (F := F))) ⟨m, fun _ => 0, ρ⟩
    (fun r => (∀ c : Dev nD, r.2.mem ((c : Thread nD τ).loc main_v1) = outAt m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c => ⟨((h.1 c).1 (0 : Fin 1)).trans (result_eq m ρ c), (h.1 c).2.1⟩, h.2⟩) (run_dats m ρ)

end Cert.KernelIdealProof
-- ==== Proof.KernelIdealValue.lean ====
/- # `Value`: what the kernel leaves, as one function of the two arrays

Over the extended reals a change of format is the identity, so each slab a device sends is a block of the plain product, and
each block stored is the activation of one. This module reads a device's result at an index down to that: the activation of
a row of the product of the device the row belongs to, at the columns of the device that holds the result. -/
module

public import proofs.«01_k».proof.Proof.KernelIdealOut
public import Idealize.ShloMosaic.Lib.Pointwise

@[expose] public section

set_option maxRecDepth 16384

noncomputable section

namespace Cert.KernelIdealProof

open Cert.KernelIdeal Cert.KernelIdeal.Gen
open Idealize.ShloMosaic
open Idealize.ShloMosaic.TcCoe

variable (m : (ℓ : Loc nD τ sig) → Buf (Elt Ideal) ℓ)

/-- The activation, the cube grouped as the reference groups it. -/
def act (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * (y * y * y))))

/-- Column `l` of the block that device `c` reads at step `r` is this column of `w`. -/
def colAt (c : Dev nD) (r : Fin 8) (l : Fin 256) : Fin 2048 := ⟨256 * ((c.val + (r.val + 1)) % 8) + l.val, by omega⟩

/-- The block of `w` at an index. -/
theorem wblk_apply (c : Dev nD) (r : Fin 8) (k : Fin 4096) (l : Fin 256) :
    wblk m c r (ix2 k l) = wval m c (ix2 k (colAt c r l)) := by
  show wval m c _ = _
  congr 1
  funext a
  apply Fin.ext
  have h0 := congrFun (off1_eq c r) 0
  have h1 := congrFun (off1_eq c r) 1
  match a with
  | 0 =>
    show k0_off1 c (BitVec.ofNat 32 (1 + r.val)) 0 + 1 * k.val = k.val
    rw [h0, Nat.one_mul]; exact Nat.zero_add _
  | 1 =>
    show k0_off1 c (BitVec.ofNat 32 (1 + r.val)) 1 + 1 * l.val = 256 * ((c.val + (r.val + 1)) % 8) + l.val
    rw [h1, Nat.one_mul]; rfl

/-- The block as the product reads it: the leading axis dropped again. -/
theorem wslab_cast (c : Dev nD) (r : Fin 8) :
    shapeCast S4096x256 (wslab m c r) shapeCasts_S1x4096x256_S4096x256 = wblk m c r := by
  funext i
  simp [wslab, shapeCast]

/-- One product of device `c`'s rows with the block of step `r`, at an index. -/
def prodAt (c : Dev nD) (r : Fin 8) (i : Fin 512) (l : Fin 256) : EReal :=
  ∑ k : Fin 4096, xval m c (ix2 i k) * wval m c (ix2 k (colAt c r l))

/-- The device's own product. -/
theorem own_apply (c : Dev nD) (i : Fin 512) (l : Fin 256) :
    k0_pay9 (F := Ideal) (k0_pay1 (xval m c)) (wslab m c 7) (ix2 i l) = prodAt m c 7 i l := by
  unfold k0_pay9
  rw [wslab_cast]
  pointwise [k0_pay1]
  simp only [wblk_apply]
  rfl

/-- A slab sent, at an index. -/
theorem sendVal_apply (c : Dev nD) (j : Fin 7) (i : Fin 512) (l : Fin 256) :
    sendVal (F := Ideal) m c j (ix3 0 i l) = prodAt m c j.castSucc i l := by
  unfold sendVal k0_pay2
  rw [wslab_cast]
  pointwise [k0_pay1]
  simp only [wblk_apply]
  rfl

/-- The activation the kernel computes of its own product, at an index. -/
theorem pay10_apply (y : FVec Ideal S512x256 .f32) (i : Fin 512) (l : Fin 256) :
    k0_pay10 (F := Ideal) y (Scalar.ofBits .f32 0x3F000000#32) (ix2 i l) = act (y (ix2 i l)) := by
  pointwise [k0_pay10, act]
  simp only [mul_assoc]

/-- The activation the kernel computes of a slab received, at an index. -/
theorem pay11_apply (s : FVec Ideal S1x512x256 .bf16) (i : Fin 512) (l : Fin 256) :
    k0_pay11 (F := Ideal) s (ix2 i l) = act (s (ix3 0 i l)) := by
  pointwise [k0_pay11, act]
  simp only [mul_assoc]

/-- The block another device sends was multiplied by the columns of the device that receives it. -/
theorem colAt_slabOf (c e : Dev nD) (h : e ≠ c) (l : Fin 256) :
    (colAt e (slabOf c e).castSucc l).val = 256 * c.val + l.val := by
  have : (e.val + ((slabOf c e).castSucc.val + 1)) % 8 = c.val := by revert c e; decide
  show 256 * ((e.val + ((slabOf c e).castSucc.val + 1)) % 8) + l.val = _
  rw [this]

/-- So was the block a device keeps. -/
theorem colAt_self (c : Dev nD) (l : Fin 256) : (colAt c 7 l).val = 256 * c.val + l.val := by
  have : (c.val + ((7 : Fin 8).val + 1)) % 8 = c.val := by revert c; decide
  show 256 * ((c.val + ((7 : Fin 8).val + 1)) % 8) + l.val = _
  rw [this]

/-- The columns of `w` that device `c` holds the result of. -/
def colOf (c : Dev nD) (l : Fin 256) : Fin 2048 := ⟨256 * c.val + l.val, by have := c.isLt; simp only [nD] at this; omega⟩

/-- The block of rows of device `e` in the result of device `c`, at an index. -/
theorem blkVal_apply (c e : Dev nD) (i : Fin 512) (l : Fin 256) :
    blkVal (F := Ideal) m c e (ix2 i l)
      = act (∑ k : Fin 4096, xval m e (ix2 i k) * wval m e (ix2 k (colOf c l))) := by
  by_cases h : e = c
  · subst h
    rw [blkVal_self, pay10_apply, own_apply]
    have : colAt e 7 l = colOf e l := Fin.ext (colAt_self e l)
    rw [prodAt, this]
  · have hc : colAt e (slabOf c e).castSucc l = colOf c l := Fin.ext (colAt_slabOf c e h l)
    rw [blkVal, if_neg h, pay11_apply, sendVal_apply, prodAt, hc]

/-- **The result of device `c` at an index**: the activation of the product of the row's device with its own columns. -/
theorem outAt_apply (c : Dev nD) (i : S4096x256.Idx) :
    outAt (F := Ideal) m c i = act (∑ k : Fin 4096, xval m (rowBlk i) (ix2 ⟨(i 0).val % 512, Nat.mod_lt _ (by decide)⟩ k)
      * wval m (rowBlk i) (ix2 k (colOf c (i 1)))) := by
  have h : inBlk i = ix2 ⟨(i 0).val % 512, Nat.mod_lt _ (by decide)⟩ (i 1) := by
    funext a
    match a with
    | 0 => rfl
    | 1 => rfl
  exact (congrArg (blkVal m c (rowBlk i)) h).trans (blkVal_apply m c (rowBlk i) _ (i 1))

end Cert.KernelIdealProof
-- ==== Proof.ReferenceIdealValue.lean ====
/- # `ReferenceIdealValue`: the reference at an index, and the kernel's result as a block of it

The reference multiplies the two whole arrays and applies the activation to every element. Read at an index it is the same
function as the kernel's result read at an index, when each device has its rows of `x` and all of `w`. -/
module

public import proofs.«01_k».proof.Proof.KernelIdealValue
public import proofs.«01_k».proof.Proof.Gen.ReferenceIdeal
public import Idealize.ShloMosaic.Lib.Layout

@[expose] public section

set_option maxRecDepth 16384

noncomputable section

namespace Cert.ReferenceIdealProof

open Cert.ReferenceIdeal Cert.ReferenceIdeal.Gen
open Idealize.ShloMosaic
open Idealize.ShloMosaic.TcCoe

/-- One number at every element of the result. -/
def everywhere (b : BitVec 32) : FVec Ideal S4096x2048 .f32 :=
  broadcastInDim S4096x2048 ![] bcast_S_S4096x2048 (constant S_ .f32 b)

/-- The product of the whole arrays. -/
def prod (x : FVec Ideal S4096x4096 .f32) (w : FVec Ideal S4096x2048 .f32) : FVec Ideal S4096x2048 .f32 :=
  Host.dotGeneral dot_S4096x4096_S4096x2048_S4096x2048_1_0_0_1_n_n none x w

/-- The reference's result: the activation of the product. -/
def out (x : FVec Ideal S4096x4096 .f32) (w : FVec Ideal S4096x2048 .f32) : FVec Ideal S4096x2048 .f32 :=
  mulf (mulf (everywhere 0x3F000000#32) (prod x w)) (addf (everywhere 0x3F800000#32)
    (Host.tanh (mulf (everywhere 0x3F4C422A#32) (addf (prod x w)
      (mulf (everywhere 0x3D372713#32) (mulf (mulf (prod x w) (prod x w)) (prod x w)))))))

/-- The product at an index. -/
theorem prod_apply (x : FVec Ideal S4096x4096 .f32) (w : FVec Ideal S4096x2048 .f32) (i : Fin 4096) (l : Fin 2048) :
    prod x w (ix2 i l) = ∑ k : Fin 4096, x (ix2 i k) * w (ix2 k l) := by
  pointwise [prod]

/-- The result at an index. -/
theorem out_apply (x : FVec Ideal S4096x4096 .f32) (w : FVec Ideal S4096x2048 .f32) (i : Fin 4096) (l : Fin 2048) :
    out x w (ix2 i l) = KernelIdealProof.act (∑ k : Fin 4096, x (ix2 i k) * w (ix2 k l)) := by
  rw [← prod_apply]
  pointwise [out, everywhere, KernelIdealProof.act]

/-- **The kernel's result is the reference's, cut in columns**: when device `c` has block `c` of the rows of `x` and all of
    `w`, what it leaves is block `c` of the columns of the reference's result. -/
theorem outAt_block (m : (ℓ : Loc KernelIdeal.nD KernelIdeal.τ KernelIdeal.sig) → Buf (Elt Ideal) ℓ)
    (x : FVec Ideal S4096x4096 .f32) (w : FVec Ideal S4096x2048 .f32)
    (hx : ∀ c, KernelIdealProof.xval m c = Layout.block ⟨2, ![512, 4096]⟩ ⟨2, ![4096, 4096]⟩ 0 8 c x)
    (hw : ∀ c, KernelIdealProof.wval m c = w) (c : Dev KernelIdeal.nD) :
    KernelIdealProof.outAt m c = Layout.block ⟨2, ![4096, 256]⟩ ⟨2, ![4096, 2048]⟩ 1 8 c (out x w) := by
  funext i
  obtain ⟨r, l, rfl⟩ : ∃ (r : Fin 4096) (l : Fin 256), i = ix2 r l := ⟨i 0, i 1, eq_ix2 i⟩
  have hi : (Layout.Tiles.idx (S := ⟨2, ![4096, 256]⟩) (T := ⟨2, ![4096, 2048]⟩) (a := 1) (k := 8) (by decide) c (ix2 r l))
      = ix2 r (KernelIdealProof.colOf c l) := by
    funext a
    apply Fin.ext
    match a with
    | 0 => rfl
    | 1 => exact congrArg (· + l.val) (Nat.mul_comm c.val 256)
  refine (KernelIdealProof.outAt_apply m c (ix2 r l)).trans ?_
  refine Eq.trans ?_ ((congrArg (out x w) hi).trans (out_apply x w r _)).symm
  refine congrArg KernelIdealProof.act (Finset.sum_congr rfl fun k _ => ?_)
  rw [hx, hw]
  refine congrArg (· * w (ix2 k (KernelIdealProof.colOf c l))) ?_
  refine congrArg x ?_
  funext a
  apply Fin.ext
  match a with
  | 0 => exact Nat.div_add_mod' r.val 512
  | 1 => rfl

end Cert.ReferenceIdealProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.ReferenceIdealValue
public import Idealize.ShloMosaic.Adequacy
public import Idealize.ShloMosaic.Init

@[expose] public section

noncomputable section

namespace Cert.Proof

open Idealize.ShloMosaic Idealize.SL.Sem Cert.Kernel

/-- Every run of the kernel, on bit patterns, ends with its arguments unchanged and every semaphore at zero. -/
theorem frame_kernel : Cert.quiescent_Kernel (hKernel := Cert.Kernel.Gen.facts) := by
  intro m g _
  exact (θ_run Cert.Kernel.defs _ _).mono (fun _ h => ⟨fun c => (h.1 c).2, h.2⟩) (KernelProof.run_main (F := Bits) m g)

/-- The same of the kernel over the extended reals. -/
theorem frame_ideal : Cert.quiescent_KernelIdeal (hKernelIdeal := Cert.KernelIdeal.Gen.facts) := by
  intro m g _
  exact (θ_run Cert.KernelIdeal.defs _ _).mono (fun _ h => ⟨fun c => (h.1 c).2, h.2⟩) (KernelIdealProof.run_main (F := Ideal) m g)

/-- The same of the reference, which has no semaphores. -/
theorem frame_reference : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩) (Cert.ReferenceIdeal.Value.run (F := Ideal) m g)

/-- From arguments that agree, device `c` of the kernel ends with block `c` of the columns of the reference's result. -/
theorem value : Cert.algebraic_KernelIdeal_ReferenceIdeal (hKernelIdeal := Cert.KernelIdeal.Gen.facts)
    (hReferenceIdeal := Cert.ReferenceIdeal.Gen.facts) := by
  intro m g m' g' _ hagree
  refine ⟨ReferenceIdealProof.out (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c).1.trans
        (ReferenceIdealProof.outAt_block m _ _ (fun d => (hagree d).1) (fun d => (hagree d).2) c), (h.1 c).2⟩)
      (KernelIdealProof.run_main (F := Ideal) m g)
  · exact (θ_run Cert.ReferenceIdeal.defs _ _).mono (fun _ h => h 0) (Cert.ReferenceIdeal.Value.run (F := Ideal) m' g')

/-- The five claims together: nothing was rewritten for the reading over the extended reals, so the fourth is immediate. -/
theorem claim : Cert.Claim :=
  ⟨Cert.Kernel.Gen.facts, Cert.KernelIdeal.Gen.facts, Cert.ReferenceIdeal.Gen.facts,
    frame_kernel, frame_ideal, frame_reference, trivial, value⟩

end Cert.Proof

end
